-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lower_bound_inside [hPre_lower_bound_inside : Cert.Pre_lower_bound_inside.Facts] (m : (ℓ : Loc Cert.KernelIdeal.nD Cert.KernelIdeal.τ Cert.KernelIdeal.sig) → Buf (Elt Ideal) ℓ) : Prop :=
  ∀ c : Dev Cert.KernelIdeal.nD,
    (Cert.Pre_lower_bound_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lower_bound_inside [hPre_lower_bound_inside : Cert.Pre_lower_bound_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lower_bound_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_KernelAdaIdeal_below_infinity [hPre_below_infinity : Cert.Pre_below_infinity.Facts] (m : (ℓ : Loc Cert.KernelAdaIdeal.nD Cert.KernelAdaIdeal.τ Cert.KernelAdaIdeal.sig) → Buf (Elt Ideal) ℓ) : Prop :=
  ∀ c : Dev Cert.KernelAdaIdeal.nD,
    (Cert.Pre_below_infinity.fn (F := Ideal) (m ((c.tc : Thread Cert.KernelAdaIdeal.nD Cert.KernelAdaIdeal.τ).loc Cert.KernelAdaIdeal.main_arg0)) (m ((c.tc : Thread Cert.KernelAdaIdeal.nD Cert.KernelAdaIdeal.τ).loc Cert.KernelAdaIdeal.main_arg1)) (m ((c.tc : Thread Cert.KernelAdaIdeal.nD Cert.KernelAdaIdeal.τ).loc Cert.KernelAdaIdeal.main_arg2))) = (fun _ => 1#1)

def Pre_ReferenceAdaIdeal (m : (ℓ : Loc Cert.ReferenceAdaIdeal.nD Cert.ReferenceAdaIdeal.τ Cert.ReferenceAdaIdeal.sig) → Buf (Elt Ideal) ℓ) : Prop :=
  True

def Pre_ReferenceAdaIdeal_below_infinity [hPre_below_infinity : Cert.Pre_below_infinity.Facts] (m : (ℓ : Loc Cert.ReferenceAdaIdeal.nD Cert.ReferenceAdaIdeal.τ Cert.ReferenceAdaIdeal.sig) → Buf (Elt Ideal) ℓ) : Prop :=
  ∀ c : Dev Cert.ReferenceAdaIdeal.nD,
    (Cert.Pre_below_infinity.fn (F := Ideal) (m ((c.tc : Thread Cert.ReferenceAdaIdeal.nD Cert.ReferenceAdaIdeal.τ).loc Cert.ReferenceAdaIdeal.main_arg0)) (m ((c.tc : Thread Cert.ReferenceAdaIdeal.nD Cert.ReferenceAdaIdeal.τ).loc Cert.ReferenceAdaIdeal.main_arg1)) (m ((c.tc : Thread Cert.ReferenceAdaIdeal.nD Cert.ReferenceAdaIdeal.τ).loc Cert.ReferenceAdaIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lower_bound_inside [hKernelIdeal : Cert.KernelIdeal.Facts] [hPre_lower_bound_inside : Cert.Pre_lower_bound_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lower_bound_inside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lower_bound_inside [hReferenceIdeal : Cert.ReferenceIdeal.Facts] [hPre_lower_bound_inside : Cert.Pre_lower_bound_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lower_bound_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_KernelAdaIdeal_pre_below_infinity [hKernelAdaIdeal : Cert.KernelAdaIdeal.Facts] [hPre_below_infinity : Cert.Pre_below_infinity.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal_below_infinity m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def quiescent_ReferenceAdaIdeal_pre_below_infinity [hReferenceAdaIdeal : Cert.ReferenceAdaIdeal.Facts] [hPre_below_infinity : Cert.Pre_below_infinity.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal_below_infinity m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def preserves_Kernel_KernelIdeal : Prop :=
  True

def algebraic_KernelIdeal_ReferenceIdeal_pre_lower_bound_inside [hKernelIdeal : Cert.KernelIdeal.Facts] [hReferenceIdeal : Cert.ReferenceIdeal.Facts] [hPre_lower_bound_inside : Cert.Pre_lower_bound_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lower_bound_inside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)) →
    ∃ (v0 : (c : Dev Cert.KernelGluIdeal.nD) → Buf (Elt Ideal) ((c.tc : Thread Cert.KernelGluIdeal.nD Cert.KernelGluIdeal.τ).loc Cert.KernelGluIdeal.main_v3)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v3) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v14) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v20) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelAda_KernelAdaIdeal : Prop :=
  True

def algebraic_KernelAdaIdeal_ReferenceAdaIdeal_pre_below_infinity [hKernelAdaIdeal : Cert.KernelAdaIdeal.Facts] [hReferenceAdaIdeal : Cert.ReferenceAdaIdeal.Facts] [hPre_below_infinity : Cert.Pre_below_infinity.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal_below_infinity m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v5) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def Claim : Prop :=
  ∃ (hKernel : Cert.Kernel.Facts) (hKernelIdeal : Cert.KernelIdeal.Facts) (hReferenceIdeal : Cert.ReferenceIdeal.Facts) (hKernelGlu : Cert.KernelGlu.Facts) (hKernelGluIdeal : Cert.KernelGluIdeal.Facts) (hReferenceGluIdeal : Cert.ReferenceGluIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelAda : Cert.KernelAda.Facts) (hKernelAdaIdeal : Cert.KernelAdaIdeal.Facts) (hReferenceAdaIdeal : Cert.ReferenceAdaIdeal.Facts) (hPre_lower_bound_inside : Cert.Pre_lower_bound_inside.Facts) (hPre_below_infinity : Cert.Pre_below_infinity.Facts),
    quiescent_Kernel (hKernel := hKernel)
    ∧ quiescent_KernelIdeal (hKernelIdeal := hKernelIdeal)
    ∧ quiescent_KernelIdeal_pre_lower_bound_inside (hKernelIdeal := hKernelIdeal) (hPre_lower_bound_inside := hPre_lower_bound_inside)
    ∧ quiescent_ReferenceIdeal (hReferenceIdeal := hReferenceIdeal)
    ∧ quiescent_ReferenceIdeal_pre_lower_bound_inside (hReferenceIdeal := hReferenceIdeal) (hPre_lower_bound_inside := hPre_lower_bound_inside)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelAda (hKernelAda := hKernelAda)
    ∧ quiescent_KernelAdaIdeal (hKernelAdaIdeal := hKernelAdaIdeal)
    ∧ quiescent_KernelAdaIdeal_pre_below_infinity (hKernelAdaIdeal := hKernelAdaIdeal) (hPre_below_infinity := hPre_below_infinity)
    ∧ quiescent_ReferenceAdaIdeal (hReferenceAdaIdeal := hReferenceAdaIdeal)
    ∧ quiescent_ReferenceAdaIdeal_pre_below_infinity (hReferenceAdaIdeal := hReferenceAdaIdeal) (hPre_below_infinity := hPre_below_infinity)
    ∧ preserves_Kernel_KernelIdeal
    ∧ algebraic_KernelIdeal_ReferenceIdeal_pre_lower_bound_inside (hKernelIdeal := hKernelIdeal) (hReferenceIdeal := hReferenceIdeal) (hPre_lower_bound_inside := hPre_lower_bound_inside)
    ∧ preserves_KernelGlu_KernelGluIdeal
    ∧ algebraic_KernelGluIdeal_ReferenceGluIdeal (hKernelGluIdeal := hKernelGluIdeal) (hReferenceGluIdeal := hReferenceGluIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelAda_KernelAdaIdeal
    ∧ algebraic_KernelAdaIdeal_ReferenceAdaIdeal_pre_below_infinity (hKernelAdaIdeal := hKernelAdaIdeal) (hReferenceAdaIdeal := hReferenceAdaIdeal) (hPre_below_infinity := hPre_below_infinity)
-- ==== Pre_below_infinity.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S4x2048x12288 : S_.BroadcastsInDim S4x2048x12288 (![] : Fin 0 → Fin S4x2048x12288.rank)
  reducesTo_S4x2048x12288_S_d0_1_2 : S4x2048x12288.ReducesTo [0, 1, 2] S_

variable [Facts]

def fn {F : FTy → Type} [FloatOps F] (main_arg0 : FVec F S8x2048 .f32) (main_arg1 : FVec F S4x2048x12288 .f32) (main_arg2 : FVec F S4x12288 .f32) : IVec S_ 1 :=
  let main_cst : FVec F S_ .f32 := constant S_ .f32 0x7F800000#32
  let main_v0 : FVec F S8x2048 .f32 := broadcastInDim S8x2048 ![] bcast_S_S8x2048 main_cst
  let main_v1 : IVec S8x2048 1 := cmpf .olt main_arg0 main_v0
  let main_c : IVec S_ 1 := constantI S_ 1 1#1
  let main_v2 : IVec S_ 1 := (fun x v => Host.reduce IntOp.andi x v reducesTo_S8x2048_S_d0_1 h_S_) main_v1 main_c
  let main_cst_0 : FVec F S_ .f32 := constant S_ .f32 0x7F800000#32
  let main_v3 : FVec F S4x2048x12288 .f32 := broadcastInDim S4x2048x12288 ![] bcast_S_S4x2048x12288 main_cst_0
  let main_v4 : IVec S4x2048x12288 1 := cmpf .olt main_arg1 main_v3
  let main_c_1 : IVec S_ 1 := constantI S_ 1 1#1
  let main_v5 : IVec S_ 1 := (fun x v => Host.reduce IntOp.andi x v reducesTo_S4x2048x12288_S_d0_1_2 h_S_) main_v4 main_c_1
  let main_v6 : IVec S_ 1 := andi main_v2 main_v5
  main_v6
-- ==== Pre_lower_bound_inside.lean ====
abbrev S8x4096x2048 : Shape := ⟨3, ![8, 4096, 2048]⟩
abbrev S2048x8192 : Shape := ⟨2, ![2048, 8192]⟩
abbrev S2048 : Shape := ⟨1, ![2048]⟩
abbrev S128 : Shape := ⟨1, ![128]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S8x4096x2048 .bf16) (main_arg1 : FVec F S2048x8192 .f32) (main_arg2 : FVec F S2048 .f32) (main_arg3 : FVec F S128 .f32) : IVec S2048 1 :=
  let main_cst : FVec F S_ .f32 := constant S_ .f32 0x00000000#32
  let main_v0 : FVec F S2048 .f32 := broadcastInDim S2048 ![] bcast_S_S2048 main_cst
  let main_v1 : IVec S2048 1 := cmpf .ogt main_arg2 main_v0
  let main_cst_0 : FVec F S_ .f32 := constant S_ .f32 0x3F800000#32
  let main_v2 : FVec F S2048 .f32 := broadcastInDim S2048 ![] bcast_S_S2048 main_cst_0
  let main_v3 : IVec S2048 1 := cmpf .olt main_arg2 main_v2
  let main_v4 : IVec S2048 1 := andi main_v1 main_v3
  main_v4
-- ==== Kernel.lean ====
abbrev S8x4096x2048 : Shape := ⟨3, ![8, 4096, 2048]⟩
abbrev S2048x8192 : Shape := ⟨2, ![2048, 8192]⟩
abbrev S2048 : Shape := ⟨1, ![2048]⟩
abbrev S128 : Shape := ⟨1, ![128]⟩
abbrev S7x64x64 : Shape := ⟨3, ![7, 64, 64]⟩
abbrev S16x1x128 : Shape := ⟨3, ![16, 1, 128]⟩
abbrev S2048x4x16x128 : Shape := ⟨4, ![2048, 4, 16, 128]⟩
abbrev S16x2048x4x128 : Shape := ⟨4, ![16, 2048, 4, 128]⟩
abbrev S16x2048x512 : Shape := ⟨3, ![16, 2048, 512]⟩
abbrev S1x128 : Shape := ⟨2, ![1, 128]⟩
abbrev S8x64x2048 : Shape := ⟨3, ![8, 64, 2048]⟩
abbrev S4x2048x512 : Shape := ⟨3, ![4, 2048, 512]⟩
abbrev S4x1x128 : Shape := ⟨3, ![4, 1, 128]⟩
abbrev S8x128x512 : Shape := ⟨3, ![8, 128, 512]⟩
abbrev S32x128x128 : Shape := ⟨3, ![32, 128, 128]⟩
abbrev S512x2048 : Shape := ⟨2, ![512, 2048]⟩
abbrev S1x2048x512 : Shape := ⟨3, ![1, 2048, 512]⟩
abbrev S2048x512 : Shape := ⟨2, ![2048, 512]⟩
abbrev S512x512 : Shape := ⟨2, ![512, 512]⟩
abbrev S1x1x128 : Shape := ⟨3, ![1, 1, 128]⟩
abbrev S64x128 : Shape := ⟨2, ![64, 128]⟩
abbrev S8x8x128 : Shape := ⟨3, ![8, 8, 128]⟩
abbrev S1x64x64 : Shape := ⟨3, ![1, 64, 64]⟩
abbrev S64x64 : Shape := ⟨2, ![64, 64]⟩
abbrev S1x2048x256 : Shape := ⟨3, ![1, 2048, 256]⟩
abbrev S2048x256 : Shape := ⟨2, ![2048, 256]⟩
abbrev S512x256 : Shape := ⟨2, ![512, 256]⟩
abbrev S1x64x128 : Shape := ⟨3, ![1, 64, 128]⟩
abbrev S2x32x128 : Shape := ⟨3, ![2, 32, 128]⟩
abbrev S2x1x128 : Shape := ⟨3, ![2, 1, 128]⟩
abbrev S4x16x128 : Shape := ⟨3, ![4, 16, 128]⟩
abbrev S8x1x128 : Shape := ⟨3, ![8, 1, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩

abbrev nBuf : Space → Nat
  | .hbm => 15
  | .vmem => 18
  | .smem => 0
  | _ => 0

abbrev bufTy : (tb : Table) → Fin (tcTables nBuf tb) → BufTy
  | .hbm, ⟨0, _⟩ => ⟨S8x4096x2048, .bf16⟩
  | .hbm, ⟨1, _⟩ => ⟨S2048x8192, .f32⟩
  | .hbm, ⟨2, _⟩ => ⟨S2048, .f32⟩
  | .hbm, ⟨3, _⟩ => ⟨S128, .f32⟩
  | .hbm, ⟨4, _⟩ => ⟨S7x64x64, .f32⟩
  | .hbm, ⟨5, _⟩ => ⟨S16x1x128, .f32⟩
  | .hbm, ⟨6, _⟩ => ⟨S2048x8192, .bf16⟩
  | .hbm, ⟨7, _⟩ => ⟨S2048x4x16x128, .bf16⟩
  | .hbm, ⟨8, _⟩ => ⟨S16x2048x4x128, .bf16⟩
  | .hbm, ⟨9, _⟩ => ⟨S16x2048x512, .bf16⟩
  | .hbm, ⟨10, _⟩ => ⟨S16x1x128, .f32⟩
  | .hbm, ⟨11, _⟩ => ⟨S16x1x128, .f32⟩
  | .hbm, ⟨12, _⟩ => ⟨S16x1x128, .f32⟩
  | .hbm, ⟨13, _⟩ => ⟨S1x128, .f32⟩
  | .hbm, ⟨14, _⟩ => ⟨S8x4096x2048, .bf16⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S4x2048x512, .bf16⟩
  | .local _ .vmem, ⟨6, _⟩ => ⟨S4x2048x512, .bf16⟩
  | .local _ .vmem, ⟨7, _⟩ => ⟨S4x1x128, .f32⟩
  | .local _ .vmem, ⟨8, _⟩ => ⟨S4x1x128, .f32⟩
  | .local _ .vmem, ⟨9, _⟩ => ⟨S4x1x128, .f32⟩
  | .local _ .vmem, ⟨10, _⟩ => ⟨S4x1x128, .f32⟩
  | .local _ .vmem, ⟨11, _⟩ => ⟨S7x64x64, .f32⟩
  | .local _ .vmem, ⟨12, _⟩ => ⟨S1x128, .f32⟩
  | .local _ .vmem, ⟨13, _⟩ => ⟨S8x128x512, .bf16⟩
  | .local _ .vmem, ⟨14, _⟩ => ⟨S8x128x512, .bf16⟩
  | .local _ .vmem, ⟨15, _⟩ => ⟨S32x128x128, .f32⟩
  | .local _ .vmem, ⟨16, _⟩ => ⟨S512x2048, .f32⟩
  | .local _ .vmem, ⟨17, _⟩ => ⟨S512x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S8x64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S7x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x2048 : Shape := ⟨3, ![8, 4096, 2048]⟩
abbrev S2048x8192 : Shape := ⟨2, ![2048, 8192]⟩
abbrev S2048 : Shape := ⟨1, ![2048]⟩
abbrev S128 : Shape := ⟨1, ![128]⟩
abbrev S8x4096x8192 : Shape := ⟨3, ![8, 4096, 8192]⟩
abbrev S_ : Shape := ⟨0, ![]⟩
abbrev S1x1x2048 : Shape := ⟨3, ![1, 1, 2048]⟩
abbrev S8x64x64x16x128 : Shape := ⟨5, ![8, 64, 64, 16, 128]⟩
abbrev S64x8x16x64x128 : Shape := ⟨5, ![64, 8, 16, 64, 128]⟩
abbrev S64x64 : Shape := ⟨2, ![64, 64]⟩
abbrev S8x16x128x128 : Shape := ⟨4, ![8, 16, 128, 128]⟩
abbrev S1x8x16x64x128 : Shape := ⟨5, ![1, 8, 16, 64, 128]⟩
abbrev S8x16x64x128 : Shape := ⟨4, ![8, 16, 64, 128]⟩
abbrev S64x64x1 : Shape := ⟨3, ![64, 64, 1]⟩
abbrev S8x16x64x1x128 : Shape := ⟨5, ![8, 16, 64, 1, 128]⟩
abbrev S8x16x1x64x128 : Shape := ⟨5, ![8, 16, 1, 64, 128]⟩
abbrev S8x16x64x64x128 : Shape := ⟨5, ![8, 16, 64, 64, 128]⟩
abbrev S8x16x64x64 : Shape := ⟨4, ![8, 16, 64, 64]⟩
abbrev S8x16x1x128 : Shape := ⟨4, ![8, 16, 1, 128]⟩
abbrev S8x16x128 : Shape := ⟨3, ![8, 16, 128]⟩
abbrev S8x16x128x1 : Shape := ⟨4, ![8, 16, 128, 1]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩

abbrev nBuf : Space → Nat
  | .hbm => 186
  | .vmem => 0
  | .smem => 0
  | _ => 0

abbrev hbmTy0_0 (i : Nat) : BufTy := match i % 128 with
  | 0 => ⟨S8x4096x2048, .bf16⟩
  | 1 => ⟨S2048x8192, .f32⟩
  | 2 => ⟨S2048, .f32⟩
  | 3 => ⟨S128, .f32⟩
  | 4 => ⟨S8x4096x2048, .f32⟩
  | 5 => ⟨S8x4096x8192, .f32⟩
  | 6 => ⟨S8x4096x2048, .f32⟩
  | 7 => ⟨S8x4096x2048, .f32⟩
  | 8 => ⟨S8x4096x2048, .f32⟩
  | 9 => ⟨S2048, .f32⟩
  | 10 => ⟨S2048, .f32⟩
  | 11 => ⟨S2048, .f32⟩
  | 12 => ⟨S8x4096x2048, .f32⟩
  | 13 => ⟨S_, .f32⟩
  | 14 => ⟨S8x4096x2048, .f32⟩
  | 15 => ⟨S8x4096x2048, .f32⟩
  | 16 => ⟨S8x4096x2048, .f32⟩
  | 17 => ⟨S8x4096x2048, .f32⟩
  | 18 => ⟨S8x4096x2048, .i1⟩
  | 19 => ⟨S8x4096x2048, .f32⟩
  | 20 => ⟨S8x4096x2048, .f32⟩
  | 21 => ⟨S8x4096x2048, .f32⟩
  | 22 => ⟨S8x4096x2048, .f32⟩
  | 23 => ⟨S8x4096x2048, .f32⟩
  | 24 => ⟨S8x4096x2048, .f32⟩
  | 25 => ⟨S8x4096x2048, .f32⟩
  | 26 => ⟨S8x4096x2048, .f32⟩
  | 27 => ⟨S1x1x2048, .f32⟩
  | 28 => ⟨S8x4096x2048, .f32⟩
  | 29 => ⟨S8x4096x2048, .f32⟩
  | 30 => ⟨S1x1x2048, .f32⟩
  | 31 => ⟨S8x4096x2048, .f32⟩
  | 32 => ⟨S8x4096x2048, .f32⟩
  | 33 => ⟨S8x4096x2048, .f32⟩
  | 34 => ⟨S8x4096x2048, .f32⟩
  | 35 => ⟨S8x4096x2048, .i1⟩
  | 36 => ⟨S8x4096x2048, .f32⟩
  | 37 => ⟨S8x4096x2048, .f32⟩
  | 38 => ⟨S8x4096x2048, .f32⟩
  | 39 => ⟨S8x4096x2048, .f32⟩
  | 40 => ⟨S8x4096x2048, .f32⟩
  | 41 => ⟨S8x4096x2048, .f32⟩
  | 42 => ⟨S8x4096x2048, .f32⟩
  | 43 => ⟨S8x4096x2048, .f32⟩
  | 44 => ⟨S8x4096x2048, .f32⟩
  | 45 => ⟨S8x4096x2048, .f32⟩
  | 46 => ⟨S8x64x64x16x128, .f32⟩
  | 47 => ⟨S64x8x16x64x128, .f32⟩
  | 48 => ⟨S8x64x64x16x128, .f32⟩
  | 49 => ⟨S64x8x16x64x128, .f32⟩
  | 50 => ⟨S8x64x64x16x128, .f32⟩
  | 51 => ⟨S64x8x16x64x128, .f32⟩
  | 52 => ⟨S8x64x64x16x128, .f32⟩
  | 53 => ⟨S64x8x16x64x128, .f32⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S_, .f32⟩
  | 66 => ⟨S8x16x128x128, .f32⟩
  | 67 => ⟨S_, .f32⟩
  | 68 => ⟨S64x8x16x64x128, .f32⟩
  | 69 => ⟨S_, .i32⟩
  | 70 => ⟨S64x8x16x64x128, .f32⟩
  | 71 => ⟨S64x8x16x64x128, .f32⟩
  | 72 => ⟨S64x8x16x64x128, .f32⟩
  | 73 => ⟨S64x8x16x64x128, .f32⟩
  | 74 => ⟨S64x64, .i1⟩
  | 75 => ⟨S_, .i32⟩
  | 76 => ⟨S8x16x128x128, .f32⟩
  | 77 => ⟨S64x8x16x64x128, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x8x16x64x128, .f32⟩
  | 85 => ⟨S8x16x64x128, .f32⟩
  | 86 => ⟨S_, .i32⟩
  | 87 => ⟨S_, .i32⟩
  | 88 => ⟨S_, .i32⟩
  | 89 => ⟨S_, .i32⟩
  | 90 => ⟨S1x8x16x64x128, .f32⟩
  | 91 => ⟨S8x16x64x128, .f32⟩
  | 92 => ⟨S_, .i32⟩
  | 93 => ⟨S_, .i32⟩
  | 94 => ⟨S_, .i32⟩
  | 95 => ⟨S_, .i32⟩
  | 96 => ⟨S1x8x16x64x128, .f32⟩
  | 97 => ⟨S8x16x64x128, .f32⟩
  | 98 => ⟨S_, .i32⟩
  | 99 => ⟨S_, .i32⟩
  | 100 => ⟨S_, .i32⟩
  | 101 => ⟨S_, .i32⟩
  | 102 => ⟨S1x8x16x64x128, .f32⟩
  | 103 => ⟨S8x16x64x128, .f32⟩
  | 104 => ⟨S_, .f32⟩
  | 105 => ⟨S_, .f32⟩
  | 106 => ⟨S8x16x64x128, .f32⟩
  | 107 => ⟨S64x64x1, .i1⟩
  | 108 => ⟨S8x16x64x1x128, .f32⟩
  | 109 => ⟨S8x16x1x64x128, .f32⟩
  | 110 => ⟨S8x16x64x64x128, .f32⟩
  | 111 => ⟨S8x16x64x64x128, .f32⟩
  | 112 => ⟨S8x16x64x64x128, .f32⟩
  | 113 => ⟨S_, .f32⟩
  | 114 => ⟨S_, .f32⟩
  | 115 => ⟨S8x16x64x64x128, .i1⟩
  | 116 => ⟨S8x16x64x64x128, .f32⟩
  | 117 => ⟨S8x16x64x64x128, .f32⟩
  | 118 => ⟨S8x16x64x1x128, .f32⟩
  | 119 => ⟨S8x16x1x64x128, .f32⟩
  | 120 => ⟨S8x16x64x64x128, .f32⟩
  | 121 => ⟨S8x16x64x64x128, .f32⟩
  | 122 => ⟨S8x16x64x64x128, .f32⟩
  | 123 => ⟨S8x16x64x64x128, .f32⟩
  | 124 => ⟨S8x16x64x64x128, .f32⟩
  | 125 => ⟨S_, .f32⟩
  | 126 => ⟨S8x16x64x64, .f32⟩
  | 127 => ⟨S8x16x64x128, .f32⟩
  | _ => ⟨S8x4096x2048, .bf16⟩

abbrev hbmTy0_1 (i : Nat) : BufTy := match i % 128 with
  | 0 => ⟨S8x16x64x128, .f32⟩
  | 1 => ⟨S8x16x64x128, .f32⟩
  | 2 => ⟨S8x16x64x128, .f32⟩
  | 3 => ⟨S8x16x64x128, .f32⟩
  | 4 => ⟨S8x16x1x128, .f32⟩
  | 5 => ⟨S8x16x128, .f32⟩
  | 6 => ⟨S8x16x128x1, .f32⟩
  | 7 => ⟨S8x16x128x1, .f32⟩
  | 8 => ⟨S8x16x128x128, .f32⟩
  | 9 => ⟨S8x16x128x128, .f32⟩
  | 10 => ⟨S8x16x64x128, .f32⟩
  | 11 => ⟨S8x16x64x128, .f32⟩
  | 12 => ⟨S8x16x64x128, .f32⟩
  | 13 => ⟨S8x16x64x128, .f32⟩
  | 14 => ⟨S8x16x128x128, .f32⟩
  | 15 => ⟨S8x16x128x128, .f32⟩
  | 16 => ⟨S1x8x16x64x128, .f32⟩
  | 17 => ⟨S_, .i32⟩
  | 18 => ⟨S_, .i32⟩
  | 19 => ⟨S_, .i32⟩
  | 20 => ⟨S_, .i32⟩
  | 21 => ⟨S64x8x16x64x128, .f32⟩
  | 22 => ⟨S_, .i32⟩
  | 23 => ⟨S_, .i32⟩
  | 24 => ⟨S8x64x64x16x128, .f32⟩
  | 25 => ⟨S8x4096x16x128, .f32⟩
  | 26 => ⟨S8x4096x16x128, .f32⟩
  | 27 => ⟨S_, .f32⟩
  | 28 => ⟨S8x4096x16, .f32⟩
  | 29 => ⟨S8x4096x16x1, .f32⟩
  | 30 => ⟨S_, .f32⟩
  | 31 => ⟨S8x4096x16x1, .f32⟩
  | 32 => ⟨S8x4096x16x1, .f32⟩
  | 33 => ⟨S_, .f32⟩
  | 34 => ⟨S8x4096x16x1, .f32⟩
  | 35 => ⟨S8x4096x16x1, .f32⟩
  | 36 => ⟨S8x4096x16x1, .f32⟩
  | 37 => ⟨S8x4096x16x128, .f32⟩
  | 38 => ⟨S8x4096x16x128, .f32⟩
  | 39 => ⟨S1x1x1x128, .f32⟩
  | 40 => ⟨S8x4096x16x128, .f32⟩
  | 41 => ⟨S8x4096x16x128, .f32⟩
  | 42 => ⟨S8x4096x2048, .f32⟩
  | 43 => ⟨S8x4096x8192, .f32⟩
  | 44 => ⟨S8x4096x2048, .f32⟩
  | 45 => ⟨S8x4096x16x128, .f32⟩
  | 46 => ⟨S8x4096x16x128, .f32⟩
  | 47 => ⟨S8x4096x16x128, .f32⟩
  | 48 => ⟨S_, .f32⟩
  | 49 => ⟨S8x4096x16x128, .f32⟩
  | 50 => ⟨S8x4096x16x128, .f32⟩
  | 51 => ⟨S_, .f32⟩
  | 52 => ⟨S8x4096x16x128, .f32⟩
  | 53 => ⟨S8x4096x16x128, .f32⟩
  | 54 => ⟨S8x4096x16x128, .f32⟩
  | 55 => ⟨S8x4096x16x128, .f32⟩
  | 56 => ⟨S8x4096x2048, .f32⟩
  | 57 => ⟨S8x4096x2048, .bf16⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_c : Ref sig .tc := ⟨.hbm, 54, rfl⟩
abbrev main_v49 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v50 : Ref sig .tc := ⟨.hbm, 64, rfl⟩
abbrev main_cst_0 : Ref sig .tc := ⟨.hbm, 65, rfl⟩
abbrev main_v51 : Ref sig .tc := ⟨.hbm, 66, rfl⟩
abbrev main_cst_1 : Ref sig .tc := ⟨.hbm, 67, rfl⟩
abbrev main_v52 : Ref sig .tc := ⟨.hbm, 68, rfl⟩
abbrev main_c_2 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev main_v53_5 : Ref sig .tc := ⟨.hbm, 75, rfl⟩
abbrev main_v53_6 : Ref sig .tc := ⟨.hbm, 76, rfl⟩
abbrev main_v53_7 : Ref sig .tc := ⟨.hbm, 77, rfl⟩
abbrev main_while0c_c_13 : Ref sig .tc := ⟨.hbm, 78, rfl⟩
abbrev main_while0c_v77 : Ref sig .tc := ⟨.hbm, 79, rfl⟩
abbrev main_while0b_call1_c : Ref sig .tc := ⟨.hbm, 80, rfl⟩
abbrev main_while0b_call1_c_0 : Ref sig .tc := ⟨.hbm, 81, rfl⟩
abbrev main_while0b_call1_c_1 : Ref sig .tc := ⟨.hbm, 82, rfl⟩
abbrev main_while0b_call1_c_2 : Ref sig .tc := ⟨.hbm, 83, rfl⟩
abbrev main_while0b_call1_v0 : Ref sig .tc := ⟨.hbm, 84, rfl⟩
abbrev main_while0b_v77 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_c_2 : Ref sig .tc := ⟨.hbm, 89, rfl⟩
abbrev main_while0b_call2_v0 : Ref sig .tc := ⟨.hbm, 90, rfl⟩
abbrev main_while0b_v78 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v79 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_v0 : Ref sig .tc := ⟨.hbm, 102, rfl⟩
abbrev main_while0b_v80 : Ref sig .tc := ⟨.hbm, 103, rfl⟩
abbrev main_while0b_call5_call0_cst : Ref sig .tc := ⟨.hbm, 104, rfl⟩
abbrev main_while0b_call5_call0_v0 : Ref sig .tc := ⟨.hbm, 105, rfl⟩
abbrev main_while0b_v81 : Ref sig .tc := ⟨.hbm, 106, rfl⟩
abbrev main_while0b_v82 : Ref sig .tc := ⟨.hbm, 107, rfl⟩
abbrev main_while0b_v83 : Ref sig .tc := ⟨.hbm, 108, rfl⟩
abbrev main_while0b_v84 : Ref sig .tc := ⟨.hbm, 109, rfl⟩
abbrev main_while0b_v85 : Ref sig .tc := ⟨.hbm, 110, rfl⟩
abbrev main_while0b_v86 : Ref sig .tc := ⟨.hbm, 111, rfl⟩
abbrev main_while0b_v87 : Ref sig .tc := ⟨.hbm, 112, rfl⟩
abbrev main_while0b_cst_13 : Ref sig .tc := ⟨.hbm, 113, rfl⟩
abbrev main_while0b_call6_v0 : Ref sig .tc := ⟨.hbm, 114, rfl⟩
abbrev main_while0b_call6_v1 : Ref sig .tc := ⟨.hbm, 115, rfl⟩
abbrev main_while0b_call6_v2 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_v92 : Ref sig .tc := ⟨.hbm, 121, rfl⟩
abbrev main_while0b_v93 : Ref sig .tc := ⟨.hbm, 122, rfl⟩
abbrev main_while0b_v94 : Ref sig .tc := ⟨.hbm, 123, rfl⟩
abbrev main_while0b_v95 : Ref sig .tc := ⟨.hbm, 124, rfl⟩
abbrev main_while0b_cst_14 : Ref sig .tc := ⟨.hbm, 125, rfl⟩
abbrev main_while0b_v96 : Ref sig .tc := ⟨.hbm, 126, rfl⟩
abbrev main_while0b_v97 : Ref sig .tc := ⟨.hbm, 127, rfl⟩
abbrev main_while0b_v98 : Ref sig .tc := ⟨.hbm, 128, rfl⟩
abbrev main_while0b_v99 : Ref sig .tc := ⟨.hbm, 129, rfl⟩
abbrev main_while0b_v100 : Ref sig .tc := ⟨.hbm, 130, rfl⟩
abbrev main_while0b_v101 : Ref sig .tc := ⟨.hbm, 131, rfl⟩
abbrev main_while0b_v102 : Ref sig .tc := ⟨.hbm, 132, rfl⟩
abbrev main_while0b_v103 : Ref sig .tc := ⟨.hbm, 133, rfl⟩
abbrev main_while0b_v104 : Ref sig .tc := ⟨.hbm, 134, rfl⟩
abbrev main_while0b_v105 : Ref sig .tc := ⟨.hbm, 135, rfl⟩
abbrev main_while0b_v106 : Ref sig .tc := ⟨.hbm, 136, rfl⟩
abbrev main_while0b_v107 : Ref sig .tc := ⟨.hbm, 137, rfl⟩
abbrev main_while0b_v108 : Ref sig .tc := ⟨.hbm, 138, rfl⟩
abbrev main_while0b_v109 : Ref sig .tc := ⟨.hbm, 139, rfl⟩
abbrev main_while0b_v110 : Ref sig .tc := ⟨.hbm, 140, rfl⟩
abbrev main_while0b_v111 : Ref sig .tc := ⟨.hbm, 141, rfl⟩
abbrev main_while0b_v112 : Ref sig .tc := ⟨.hbm, 142, rfl⟩
abbrev main_while0b_v113 : Ref sig .tc := ⟨.hbm, 143, rfl⟩
abbrev main_while0b_call7_v0 : Ref sig .tc := ⟨.hbm, 144, rfl⟩
abbrev main_while0b_call7_c : Ref sig .tc := ⟨.hbm, 145, rfl⟩
abbrev main_while0b_call7_c_0 : Ref sig .tc := ⟨.hbm, 146, rfl⟩
abbrev main_while0b_call7_c_1 : Ref sig .tc := ⟨.hbm, 147, rfl⟩
abbrev main_while0b_call7_c_2 : Ref sig .tc := ⟨.hbm, 148, rfl⟩
abbrev main_while0b_v114 : Ref sig .tc := ⟨.hbm, 149, rfl⟩
abbrev main_while0b_c_15 : Ref sig .tc := ⟨.hbm, 150, rfl⟩
abbrev main_while0b_v115 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_cst_3 : Ref sig .tc := ⟨.hbm, 155, rfl⟩
abbrev main_v57 : Ref sig .tc := ⟨.hbm, 156, rfl⟩
abbrev main_v58 : Ref sig .tc := ⟨.hbm, 157, rfl⟩
abbrev main_cst_4 : Ref sig .tc := ⟨.hbm, 158, rfl⟩
abbrev main_v59 : Ref sig .tc := ⟨.hbm, 159, rfl⟩
abbrev main_v60 : Ref sig .tc := ⟨.hbm, 160, rfl⟩
abbrev main_cst_5 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_call8_v0 : Ref sig .tc := ⟨.hbm, 174, rfl⟩
abbrev main_call8_v1 : Ref sig .tc := ⟨.hbm, 175, rfl⟩
abbrev main_call8_cst : Ref sig .tc := ⟨.hbm, 176, rfl⟩
abbrev main_call8_v2 : Ref sig .tc := ⟨.hbm, 177, rfl⟩
abbrev main_call8_v3 : Ref sig .tc := ⟨.hbm, 178, rfl⟩
abbrev main_call8_cst_0 : Ref sig .tc := ⟨.hbm, 179, rfl⟩
abbrev main_call8_v4 : Ref sig .tc := ⟨.hbm, 180, rfl⟩
abbrev main_call8_v5 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩

abbrev nD : Nat := 1
abbrev τ : Topo := Topo.v7x

variable {F : FTy → Type} [FloatOps F]

abbrev main_while0_count : Scf.Loop 32 := ⟨0#32, 64#32, 1#32⟩
-- ==== KernelGlu.lean ====
abbrev S8x4096x2048 : Shape := ⟨3, ![8, 4096, 2048]⟩
abbrev S2048x4096 : Shape := ⟨2, ![2048, 4096]⟩
abbrev S8x1x2048 : Shape := ⟨3, ![8, 1, 2048]⟩
abbrev S32768x2048 : Shape := ⟨2, ![32768, 2048]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S2048x4096, .f32⟩
  | .hbm, ⟨2, _⟩ => ⟨S8x4096x2048, .f32⟩
  | .hbm, ⟨3, _⟩ => ⟨S8x1x2048, .f32⟩
  | .hbm, ⟨4, _⟩ => ⟨S32768x2048, .bf16⟩
  | .hbm, ⟨5, _⟩ => ⟨S2048x4096, .bf16⟩
  | .hbm, ⟨6, _⟩ => ⟨S32768x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x4096, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceGluIdeal.lean ====
abbrev S8x4096x2048 : Shape := ⟨3, ![8, 4096, 2048]⟩
abbrev S2048x4096 : Shape := ⟨2, ![2048, 4096]⟩
abbrev S8x1x2048 : Shape := ⟨3, ![8, 1, 2048]⟩
abbrev S8x4096x4096 : Shape := ⟨3, ![8, 4096, 4096]⟩
abbrev S_ : Shape := ⟨0, ![]⟩
abbrev S32768x2048 : Shape := ⟨2, ![32768, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x4096, .f32⟩
  | .hbm, ⟨2, _⟩ => ⟨S8x4096x2048, .f32⟩
  | .hbm, ⟨3, _⟩ => ⟨S8x1x2048, .f32⟩
  | .hbm, ⟨4, _⟩ => ⟨S8x4096x2048, .f32⟩
  | .hbm, ⟨5, _⟩ => ⟨S8x4096x4096, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S_, .f32⟩
  | .hbm, ⟨11, _⟩ => ⟨S8x4096x2048, .f32⟩
  | .hbm, ⟨12, _⟩ => ⟨S8x4096x2048, .f32⟩
  | .hbm, ⟨13, _⟩ => ⟨S_, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S32768x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelOut.lean ====
abbrev S8x4096x2048 : Shape := ⟨3, ![8, 4096, 2048]⟩
abbrev S2048x2048 : Shape := ⟨2, ![2048, 2048]⟩
abbrev S8x1x2048 : Shape := ⟨3, ![8, 1, 2048]⟩
abbrev S32768x2048 : Shape := ⟨2, ![32768, 2048]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOutIdeal.lean ====
abbrev S8x4096x2048 : Shape := ⟨3, ![8, 4096, 2048]⟩
abbrev S2048x2048 : Shape := ⟨2, ![2048, 2048]⟩
abbrev S8x1x2048 : Shape := ⟨3, ![8, 1, 2048]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S8x4096x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S32768x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelNorm.lean ====
abbrev S8x4096x2048 : Shape := ⟨3, ![8, 4096, 2048]⟩
abbrev S2048 : Shape := ⟨1, ![2048]⟩
abbrev S8x1x2048 : Shape := ⟨3, ![8, 1, 2048]⟩
abbrev S32768x2048 : Shape := ⟨2, ![32768, 2048]⟩
abbrev S1x2048 : Shape := ⟨2, ![1, 2048]⟩
abbrev S1024x2048 : Shape := ⟨2, ![1024, 2048]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S32768x2048, .f32⟩
  | .hbm, ⟨5, _⟩ => ⟨S1x2048, .f32⟩
  | .hbm, ⟨6, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32_1 : BitVec 32 := 32#32
  let v1 : BitVec 32 := Scalar.muli arg6 c32_i32_1
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_1 : BitVec 32 := 32#32
  let v1 : BitVec 32 := Scalar.muli arg6 c32_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S8x4096x2048 : Shape := ⟨3, ![8, 4096, 2048]⟩
abbrev S2048 : Shape := ⟨1, ![2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .bf16⟩
  | .hbm, ⟨28, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelAda.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdaIdeal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Block.lean ====
module

public import proofs.«01_k».proof.Proof.Gen.KernelIdeal.Skeleton

@[expose] public section

set_option maxRecDepth 16384

noncomputable section

/-!
# One chunk of one head of one batch row, as the kernel computes it

Each function is a stretch of the kernel's body for one head, one batch row and one chunk of 64
tokens, over any interpretation of the floats.
-/

namespace Cert.Block

open Idealize.ShloMosaic Cert.KernelIdeal Cert.KernelIdeal.Gen

variable {F : FTy → Type} [FloatOps F]

/-- A constant everywhere. -/
def kst (s : Shape) (b : BitVec 32) : FVec F s .f32 := broadcast s (Scalar.ofBits .f32 b)

/-- The row of one head's table, as a single row. -/
def row (x : Vec F S1x1x128 .f32) : FVec F S1x128 .f32 := shapeCast S1x128 x shapeCasts_S1x1x128_S1x128

/-- `−|x|`. -/
def nabs (s : Shape) (x : FVec F s .f32) : FVec F s .f32 := subf (kst s 0#32) (absf x)

/-- `log (1 + exp (−|x|))`. -/
def soft (s : Shape) (x : FVec F s .f32) : FVec F s .f32 :=
  log (addf (kst s 0x3F800000#32) (exp (nabs s x)))

/-- The log of the lower-bound complement plus the log of the sigmoid of the forget gate. -/
def gateB (l1 : FVec F S1x128 .f32) (z : FVec F S64x128 .f32) : FVec F S64x128 .f32 :=
  subf (addf (broadcastTo S64x128 l1 broadcasts_S1x128_S64x128) (minimumf z (kst S64x128 0#32))) (soft S64x128 z)

/-- The log of the forget gate. -/
def logF (la l1 : FVec F S1x128 .f32) (z : FVec F S64x128 .f32) : FVec F S64x128 .f32 :=
  addf (maximumf (broadcastTo S64x128 la broadcasts_S1x128_S64x128) (gateB l1 z))
    (soft S64x128 (subf (broadcastTo S64x128 la broadcasts_S1x128_S64x128) (gateB l1 z)))

/-- The row number. -/
def rowIx : IVec S64x128 32 := iota .tc S64x128 32 [0] iota_S64x128_d0_w32

/-- The row number within a group of 8 rows. -/
def subIx : IVec S8x8x128 32 := iota .tc S8x8x128 32 [1] iota_S8x8x128_d1_w32

/-- One doubling step of the running sum: add what stands `k` rows above. -/
def shiftAdd (k : BitVec 32) (x : FVec F S64x128 .f32) : FVec F S64x128 .f32 :=
  addf x (select (cmpi .sge rowIx (broadcast S64x128 k)) (dynamicRotate 0 k none x rotates_S64x128_d0) (kst S64x128 0#32))

/-- The running sum over the rows. -/
def cum (x : FVec F S64x128 .f32) : FVec F S64x128 .f32 :=
  shiftAdd 32#32 (shiftAdd 16#32 (shiftAdd 8#32 (shiftAdd 4#32 (shiftAdd 2#32 (shiftAdd 1#32 x)))))

/-- Groups of 64: the middle row, over the group. -/
def ref32 (x : FVec F S64x128 .f32) : FVec F S64x128 .f32 :=
  shapeCast S64x128 (broadcastTo S1x64x128 (shapeCast S1x1x128 (extractStridedSlice S1x1x128 ![0, 31, 0]
    (shapeCast S1x64x128 x shapeCasts_S64x128_S1x64x128) slices_S1x64x128_o0_31_0_S1x1x128)
    shapeCasts_S1x1x128_S1x1x128) broadcasts_S1x1x128_S1x64x128) shapeCasts_S1x64x128_S64x128

/-- Groups of 32: the middle row, over the group. -/
def ref16 (x : FVec F S64x128 .f32) : FVec F S64x128 .f32 :=
  shapeCast S64x128 (broadcastTo S2x32x128 (shapeCast S2x1x128 (extractStridedSlice S2x1x128 ![0, 15, 0]
    (shapeCast S2x32x128 x shapeCasts_S64x128_S2x32x128) slices_S2x32x128_o0_15_0_S2x1x128)
    shapeCasts_S2x1x128_S2x1x128) broadcasts_S2x1x128_S2x32x128) shapeCasts_S2x32x128_S64x128

/-- Groups of 16: the middle row, over the group. -/
def ref8 (x : FVec F S64x128 .f32) : FVec F S64x128 .f32 :=
  shapeCast S64x128 (broadcastTo S4x16x128 (shapeCast S4x1x128 (extractStridedSlice S4x1x128 ![0, 7, 0]
    (shapeCast S4x16x128 x shapeCasts_S64x128_S4x16x128) slices_S4x16x128_o0_7_0_S4x1x128)
    shapeCasts_S4x1x128_S4x1x128) broadcasts_S4x1x128_S4x16x128) shapeCasts_S4x16x128_S64x128

/-- One row of each group of 8, over the group. -/
def bc8 (y : FVec F S8x1x128 .f32) : FVec F S8x8x128 .f32 :=
  broadcastTo S8x8x128 (shapeCast S8x1x128 y shapeCasts_S8x1x128_S8x1x128) broadcasts_S8x1x128_S8x8x128

/-- The rows in groups of 8. -/
def by8 (x : FVec F S64x128 .f32) : FVec F S8x8x128 .f32 := shapeCast S8x8x128 x shapeCasts_S64x128_S8x8x128

/-- From row `k` of the group of 8 on, the first; before, the second. -/
def fromRow (k : BitVec 32) (x y : FVec F S8x8x128 .f32) : FVec F S8x8x128 .f32 :=
  select (cmpi .sge subIx (broadcast S8x8x128 k)) x y

/-- Groups of 8: the middle row, over the group. -/
def ref4 (x : FVec F S64x128 .f32) : FVec F S64x128 .f32 :=
  shapeCast S64x128 (bc8 (extractStridedSlice S8x1x128 ![0, 3, 0] (by8 x) slices_S8x8x128_o0_3_0_S8x1x128)) shapeCasts_S8x8x128_S64x128

/-- Groups of 4: the middle row, over the group. -/
def ref2 (x : FVec F S64x128 .f32) : FVec F S64x128 .f32 :=
  shapeCast S64x128 (fromRow 4#32
    (bc8 (extractStridedSlice S8x1x128 ![0, 5, 0] (by8 x) slices_S8x8x128_o0_5_0_S8x1x128))
    (bc8 (extractStridedSlice S8x1x128 ![0, 1, 0] (by8 x) slices_S8x8x128_o0_1_0_S8x1x128))) shapeCasts_S8x8x128_S64x128

/-- Groups of 2: the middle row, over the group. -/
def ref1 (x : FVec F S64x128 .f32) : FVec F S64x128 .f32 :=
  shapeCast S64x128 (fromRow 6#32 (bc8 (extractStridedSlice S8x1x128 ![0, 6, 0] (by8 x) slices_S8x8x128_o0_6_0_S8x1x128))
    (fromRow 4#32 (bc8 (extractStridedSlice S8x1x128 ![0, 4, 0] (by8 x) slices_S8x8x128_o0_4_0_S8x1x128))
    (fromRow 2#32 (bc8 (extractStridedSlice S8x1x128 ![0, 2, 0] (by8 x) slices_S8x8x128_o0_2_0_S8x1x128))
    (bc8 (extractStridedSlice S8x1x128 ![0, 0, 0] (by8 x) slices_S8x8x128_o0_0_0_S8x1x128))))) shapeCasts_S8x8x128_S64x128

/-- The query, narrowed. -/
def qn (q : Vec F S64x128 .f32) : FVec F S64x128 .bf16 := truncf .bf16 q bitsLt_bf16_f32

/-- The key: one minus the forget gate, narrowed. -/
def kn (lf : FVec F S64x128 .f32) : FVec F S64x128 .bf16 :=
  truncf .bf16 (subf (kst S64x128 0x3F800000#32) (exp lf)) bitsLt_bf16_f32

/-- The decay between each row and the middle row of its group. -/
def dec (b r : FVec F S64x128 .f32) : FVec F S64x128 .bf16 :=
  truncf .bf16 (exp (nabs S64x128 (subf b r))) bitsLt_bf16_f32

/-- Queries against keys. -/
def qk (q k : FVec F S64x128 .bf16) : FVec F S64x64 .f32 :=
  matmul dot_S64x128_S64x128_S64x64_1_1_0_0_n_n none q k (constant S64x64 .f32 0x00000000#32)

/-- A level's mask. -/
def msk (x : Vec F S1x64x64 .f32) : IVec S64x64 1 :=
  cmpf .ogt (shapeCast S64x64 x shapeCasts_S1x64x64_S64x64) (kst S64x64 0x3F000000#32)

/-- One level's scores put where its mask is on. -/
def lvl (m : Vec F S1x64x64 .f32) (q k d : FVec F S64x128 .bf16) (s : FVec F S64x64 .f32) : FVec F S64x64 .f32 :=
  select (msk m) (qk (mulf q d) (mulf k d)) s

/-- The decayed scores of a chunk: diagonal first, then level by level. -/
def scores (mk : Fin 7 → Vec F S1x64x64 .f32) (q k : FVec F S64x128 .bf16) (b : FVec F S64x128 .f32) : FVec F S64x64 .f32 :=
  lvl (mk 5) q k (dec b (ref1 b)) (lvl (mk 4) q k (dec b (ref2 b)) (lvl (mk 3) q k (dec b (ref4 b))
    (lvl (mk 2) q k (dec b (ref8 b)) (lvl (mk 1) q k (dec b (ref16 b)) (lvl (mk 0) q k (dec b (ref32 b))
      (select (msk (mk 6)) (qk q k) (kst S64x64 0#32)))))))

/-- The running sum at the chunk's last row. -/
def last (b : FVec F S64x128 .f32) : FVec F S1x128 .f32 := extractStridedSlice S1x128 ![63, 0] b slices_S64x128_o63_0_S1x128

/-- The query decayed from the chunk's start. -/
def qin (q : FVec F S64x128 .bf16) (b : FVec F S64x128 .f32) : FVec F S64x128 .bf16 :=
  mulf q (truncf .bf16 (exp b) bitsLt_bf16_f32)

/-- The key decayed to the chunk's end. -/
def kout (k : FVec F S64x128 .bf16) (b : FVec F S64x128 .f32) : FVec F S64x128 .bf16 :=
  mulf k (truncf .bf16 (exp (subf (broadcastTo S64x128 (last b) broadcasts_S1x128_S64x128) b)) bitsLt_bf16_f32)

/-- A state slot, as a matrix. -/
def stm (st : Vec F S1x128x128 .f32) : FVec F S128x128 .f32 := shapeCast S128x128 st shapeCasts_S1x128x128_S128x128

/-- The chunk's outputs before the norm, from the narrowed query and key, the values, the running sum and the state. -/
def mix (mk : Fin 7 → Vec F S1x64x64 .f32) (q k v : FVec F S64x128 .bf16) (b : FVec F S64x128 .f32) (st : FVec F S128x128 .f32) :
    FVec F S64x128 .f32 :=
  addf (matmul dot_S64x64_S64x128_S64x128_1_0_0_1_n_n none (truncf .bf16 (scores mk q k b) bitsLt_bf16_f32) v (constant S64x128 .f32 0x00000000#32))
    (matmul dot_S64x128_S128x128_S64x128_1_1_0_0_n_n none (qin q b) (truncf .bf16 st bitsLt_bf16_f32) (constant S64x128 .f32 0x00000000#32))

/-- The next state, from the narrowed key, the values, the running sum and the state. -/
def nxt (k v : FVec F S64x128 .bf16) (b : FVec F S64x128 .f32) (st : FVec F S128x128 .f32) : FVec F S1x128x128 .f32 :=
  shapeCast S1x128x128 (addf (mulf (broadcastTo S128x128 (exp (last b)) broadcasts_S1x128_S128x128) st)
    (matmul dot_S64x128_S64x128_S128x128_0_0_1_1_n_n none v (kout k b) (constant S128x128 .f32 0x00000000#32))) shapeCasts_S128x128_S1x128x128

/-- The root-mean-square norm over a head's columns, then the output gate. -/
def fin (o : FVec F S64x128 .f32) (gn : Vec F S1x128 .f32) (g : Vec F S64x128 .f32) : FVec F S1x64x128 .bf16 :=
  shapeCast S1x64x128 (truncf .bf16 (mulf (mulf (mulf o (broadcastTo S64x128
    (rsqrt (addf (divf (shapeCast S64x1 (multiReduction .add [1] S64 (mulf o o) 0x00000000#32 reduces_S64x128_S64 (.inl rfl) rfl) shapeCasts_S64_S64x1)
      (kst S64x1 0x43000000#32)) (kst S64x1 0x358637BD#32))) broadcasts_S64x1_S64x128))
    (broadcastTo S64x128 (shapeCast S1x128 gn shapeCasts_S1x128_S1x128) broadcasts_S1x128_S64x128)) (mulf g (logistic g))) bitsLt_bf16_f32) shapeCasts_S64x128_S1x64x128

/-- The running sum of the log forget gates. -/
def bcum (la l1 : Vec F S1x1x128 .f32) (z : Vec F S64x128 .f32) : FVec F S64x128 .f32 := cum (logF (row la) (row l1) z)

/-- The key from a head's tables and the forget gate's column. -/
def kz (la l1 : Vec F S1x1x128 .f32) (z : Vec F S64x128 .f32) : FVec F S64x128 .bf16 := kn (logF (row la) (row l1) z)

/-- The output tile of one chunk, head and batch row. -/
def hgOut (la l1 : Vec F S1x1x128 .f32) (mk : Fin 7 → Vec F S1x64x64 .f32) (gn : Vec F S1x128 .f32)
    (q z v g : Vec F S64x128 .f32) (st : Vec F S1x128x128 .f32) : FVec F S1x64x128 .bf16 :=
  fin (mix mk (qn q) (kz la l1 z) (qn v) (bcum la l1 z) (stm st)) gn g

/-- The next state of one chunk, head and batch row. -/
def hgSt (la l1 : Vec F S1x1x128 .f32) (z v : Vec F S64x128 .f32) (st : Vec F S1x128x128 .f32) : FVec F S1x128x128 .f32 :=
  nxt (kz la l1 z) (qn v) (bcum la l1 z) (stm st)

/-- A quarter of a head's projection: the tokens of one chunk against 256 of its columns. -/
def projPiece (h : Vec F S8x64x2048 .bf16) (w : Vec F S1x2048x256 .bf16) : FVec F S512x256 .f32 :=
  shapeCast S512x256 (matmul dot_S512x2048_S2048x256_S512x256_1_0_0_1_n_n none (shapeCast S512x2048 h shapeCasts_S8x64x2048_S512x2048)
    (shapeCast S2048x256 w shapeCasts_S1x2048x256_S2048x256) (constant S512x256 .f32 0x00000000#32)) shapeCasts_S512x256_S512x256

/-- A head's projection: the tokens of one chunk against all its columns. -/
def projInit (h : Vec F S8x64x2048 .bf16) (w : Vec F S1x2048x512 .bf16) : FVec F S512x512 .f32 :=
  shapeCast S512x512 (matmul dot_S512x2048_S2048x512_S512x512_1_0_0_1_n_n none (shapeCast S512x2048 h shapeCasts_S8x64x2048_S512x2048)
    (shapeCast S2048x512 w shapeCasts_S1x2048x512_S2048x512) (constant S512x512 .f32 0x00000000#32)) shapeCasts_S512x512_S512x512

/-- The states before the first chunk. -/
def stInit : FVec F S32x128x128 .f32 := shapeCast S32x128x128 (kst S32x128x128 0#32) shapeCasts_S32x128x128_S32x128x128

end Cert.Block

end
-- ==== Proof.Pieces.lean ====
module

public import proofs.«01_k».proof.Proof.Block
public import proofs.«01_k».proof.Proof.Gen.KernelIdeal.Frame.Runs
public import Idealize.ShloMosaic.Lib.Pipeline.ValueKit
public import Idealize.ShloMosaic.Lib.Pipeline.ReadBack

@[expose] public section

set_option maxRecDepth 16384

noncomputable section

/-!
# The stores of one grid point, uniformly in the head and the batch row

The kernel's body is unrolled over two chunks, four heads and eight batch rows. Instance `n < 32` of
a chunk is head `n / 8`, batch row `n % 8`; this module names the rectangles instance `n` reads and
writes, and the lists of what it stores.
-/

namespace Cert.Pieces

open Idealize.ShloMosaic Cert.KernelIdeal Cert.KernelIdeal.Gen Cert.Block

variable {F : FTy → Type} [FloatOps F]

/-- In bounds: rows of one batch row, one of a head's four groups of columns. -/
theorem inb_proj (n : ℕ) (j : Fin 4) : ∀ a, (![64 * (n % 8), 512 * (n / 8 % 4) + 128 * j.val] : Fin 2 → ℕ) a + S64x128.size a ≤ S512x2048.size a := by
  intro a
  match a with
  | ⟨0, _⟩ => show 64 * (n % 8) + 64 ≤ 512; omega
  | ⟨1, _⟩ => show 512 * (n / 8 % 4) + 128 * j.val + 128 ≤ 2048; omega

/-- What instance `n` reads of the projection: group `j` of its head's columns. -/
def rP (n : ℕ) (j : Fin 4) : Rect S512x2048 :=
  Rect.unit (s := S512x2048) ![64 * (n % 8), 512 * (n / 8 % 4) + 128 * j.val] S64x128.size (inb_proj n j)

/-- In bounds: one state slot. -/
theorem inb_slot (n : ℕ) : ∀ a, (![n % 32, 0, 0] : Fin 3 → ℕ) a + S1x128x128.size a ≤ S32x128x128.size a := by
  intro a
  match a with
  | ⟨0, _⟩ => show n % 32 + 1 ≤ 32; omega
  | ⟨1, _⟩ => show 0 + 128 ≤ 128; omega
  | ⟨2, _⟩ => show 0 + 128 ≤ 128; omega

/-- Instance `n`'s state slot. -/
def rS (n : ℕ) : Rect S32x128x128 := Rect.unit (s := S32x128x128) ![n % 32, 0, 0] S1x128x128.size (inb_slot n)

/-- In bounds: one output tile. -/
theorem inb_out (k : Fin 2) (n : ℕ) : ∀ a, (![n % 8, 64 * k.val, 128 * (n / 8 % 4)] : Fin 3 → ℕ) a + S1x64x128.size a ≤ S8x128x512.size a := by
  intro a
  match a with
  | ⟨0, _⟩ => show n % 8 + 1 ≤ 8; omega
  | ⟨1, _⟩ => show 64 * k.val + 64 ≤ 128; omega
  | ⟨2, _⟩ => show 128 * (n / 8 % 4) + 128 ≤ 512; omega

/-- Instance `n`'s output tile in the point's chunk `k`. -/
def rO (k : Fin 2) (n : ℕ) : Rect S8x128x512 :=
  Rect.unit (s := S8x128x512) ![n % 8, 64 * k.val, 128 * (n / 8 % 4)] S1x64x128.size (inb_out k n)

/-- In bounds: half of a head's weight columns. -/
theorem inb_wh (g : ℕ) : ∀ a, (![g / 2 % 4, 0, 256 * (g % 2)] : Fin 3 → ℕ) a + S1x2048x256.size a ≤ S4x2048x512.size a := by
  intro a
  match a with
  | ⟨0, _⟩ => show g / 2 % 4 + 1 ≤ 4; omega
  | ⟨1, _⟩ => show 0 + 2048 ≤ 2048; omega
  | ⟨2, _⟩ => show 256 * (g % 2) + 256 ≤ 512; omega

/-- Half `g` of the weights: head `g / 2`, columns from `256 (g % 2)`. -/
def rWh (g : ℕ) : Rect S4x2048x512 := Rect.unit (s := S4x2048x512) ![g / 2 % 4, 0, 256 * (g % 2)] S1x2048x256.size (inb_wh g)

/-- In bounds: half of a head's projected columns. -/
theorem inb_ph (g : ℕ) : ∀ a, (![0, 512 * (g / 2 % 4) + 256 * (g % 2)] : Fin 2 → ℕ) a + S512x256.size a ≤ S512x2048.size a := by
  intro a
  match a with
  | ⟨0, _⟩ => show 0 + 512 ≤ 512; omega
  | ⟨1, _⟩ => show 512 * (g / 2 % 4) + 256 * (g % 2) + 256 ≤ 2048; omega

/-- Where half `g` of the projection is stored. -/
def rPh (g : ℕ) : Rect S512x2048 := Rect.unit (s := S512x2048) ![0, 512 * (g / 2 % 4) + 256 * (g % 2)] S512x256.size (inb_ph g)

/-- In bounds: a head's weight columns. -/
theorem inb_w (e : ℕ) : ∀ a, (![e % 4, 0, 0] : Fin 3 → ℕ) a + S1x2048x512.size a ≤ S4x2048x512.size a := by
  intro a
  match a with
  | ⟨0, _⟩ => show e % 4 + 1 ≤ 4; omega
  | ⟨1, _⟩ => show 0 + 2048 ≤ 2048; omega
  | ⟨2, _⟩ => show 0 + 512 ≤ 512; omega

/-- Head `e`'s weights. -/
def rW (e : ℕ) : Rect S4x2048x512 := Rect.unit (s := S4x2048x512) ![e % 4, 0, 0] S1x2048x512.size (inb_w e)

/-- In bounds: a head's projected columns. -/
theorem inb_p (e : ℕ) : ∀ a, (![0, 512 * (e % 4)] : Fin 2 → ℕ) a + S512x512.size a ≤ S512x2048.size a := by
  intro a
  match a with
  | ⟨0, _⟩ => show 0 + 512 ≤ 512; omega
  | ⟨1, _⟩ => show 512 * (e % 4) + 512 ≤ 2048; omega

/-- Where head `e`'s projection is stored at a row's first point. -/
def rPi (e : ℕ) : Rect S512x2048 := Rect.unit (s := S512x2048) ![0, 512 * (e % 4)] S512x512.size (inb_p e)

/-- In bounds: a head's row of a table. -/
theorem inb_t (e : ℕ) : ∀ a, (![e % 4, 0, 0] : Fin 3 → ℕ) a + S1x1x128.size a ≤ S4x1x128.size a := by
  intro a
  match a with
  | ⟨0, _⟩ => show e % 4 + 1 ≤ 4; omega
  | ⟨1, _⟩ => show 0 + 1 ≤ 1; omega
  | ⟨2, _⟩ => show 0 + 128 ≤ 128; omega

/-- Head `e`'s row of a table. -/
def rT (e : ℕ) : Rect S4x1x128 := Rect.unit (s := S4x1x128) ![e % 4, 0, 0] S1x1x128.size (inb_t e)

/-- In bounds: one mask. -/
theorem inb_m (i : Fin 7) : ∀ a, (![i.val, 0, 0] : Fin 3 → ℕ) a + S1x64x64.size a ≤ S7x64x64.size a := by
  intro a
  match a with
  | ⟨0, _⟩ => show i.val + 1 ≤ 7; omega
  | ⟨1, _⟩ => show 0 + 64 ≤ 64; omega
  | ⟨2, _⟩ => show 0 + 64 ≤ 64; omega

/-- Mask `i`. -/
def rM (i : Fin 7) : Rect S7x64x64 := Rect.unit (s := S7x64x64) ![i.val, 0, 0] S1x64x64.size (inb_m i)

/-- In bounds: a whole array from its origin. -/
theorem inb_z (s : Shape) (off : Fin s.rank → ℕ) (h : ∀ a, off a = 0) : ∀ a, off a + s.size a ≤ s.size a := by
  intro a; rw [h a]; omega

/-- The whole of the point's chunk of tokens. -/
def rH : Rect S8x64x2048 := Rect.unit (s := S8x64x2048) ![0, 0, 0] S8x64x2048.size (inb_z S8x64x2048 ![0, 0, 0] (by decide))

/-- The whole of the norm's weights. -/
def rG : Rect S1x128 := Rect.unit (s := S1x128) ![0, 0] S1x128.size (inb_z S1x128 ![0, 0] (by decide))

/-- The whole of the states. -/
def rZ : Rect S32x128x128 := Rect.unit (s := S32x128x128) ![0, 0, 0] S32x128x128.size (inb_z S32x128x128 ![0, 0, 0] (by decide))

/-- The states stored by the first `n` instances of a chunk, over what was stored before: instance
`k` reads its slot by `rd` and stores `nw k` of it. -/
def stSeq (rd : ℕ → List (View.Piece (Elt F) S32x128x128 .f32) → Vec F S1x128x128 .f32)
    (nw : ℕ → Vec F S1x128x128 .f32 → Vec F S1x128x128 .f32) (base : List (View.Piece (Elt F) S32x128x128 .f32)) (n : ℕ) :
    List (View.Piece (Elt F) S32x128x128 .f32) :=
  Nat.rec base (fun k L => ⟨rS k, nw k (rd k L)⟩ :: L) n

/-- The output tiles stored by the first `n` instances of a chunk. -/
def outSeq (c : Fin 2) (ou : ℕ → Vec F S1x64x128 .bf16) (base : List (View.Piece (Elt F) S8x128x512 .bf16)) (n : ℕ) :
    List (View.Piece (Elt F) S8x128x512 .bf16) :=
  Nat.rec base (fun k L => ⟨rO c k, ou k⟩ :: L) n

/-- The projections stored in the first `n` of eight halves. -/
def prSeq (pr : ℕ → Vec F S512x256 .f32) (base : List (View.Piece (Elt F) S512x2048 .f32)) (n : ℕ) :
    List (View.Piece (Elt F) S512x2048 .f32) :=
  Nat.rec base (fun k L => ⟨rPh k, pr k⟩ :: L) n

/-- The projections stored at a row's first point by the first `n` heads. -/
def piSeq (pr : ℕ → Vec F S512x512 .f32) (n : ℕ) : List (View.Piece (Elt F) S512x2048 .f32) :=
  Nat.rec [] (fun k L => ⟨rPi k, pr k⟩ :: L) n

section
variable (v : View sig .tc .vmem S32x128x128 .f32) (la l1 : ℕ → Vec F S1x1x128 .f32) (mk : Fin 7 → Vec F S1x64x64 .f32) (gn : Vec F S1x128 .f32)
  (pA pB : ℕ → Fin 4 → Vec F S64x128 .f32) (rd : ℕ → List (View.Piece (Elt F) S32x128x128 .f32) → Vec F S1x128x128 .f32)
  (base : List (View.Piece (Elt F) S32x128x128 .f32))

/-- The next state of instance `n`, from its columns of a chunk's projection. -/
def nw (p : ℕ → Fin 4 → Vec F S64x128 .f32) (n : ℕ) (st : Vec F S1x128x128 .f32) : Vec F S1x128x128 .f32 :=
  hgSt (la n) (l1 n) (p n 1) (p n 2) st

/-- The output tile of instance `n`, from its columns of a chunk's projection. -/
def ou (p : ℕ → Fin 4 → Vec F S64x128 .f32) (n : ℕ) (st : Vec F S1x128x128 .f32) : Vec F S1x64x128 .bf16 :=
  hgOut (la n) (l1 n) mk gn (p n 0) (p n 1) (p n 2) (p n 3) st

/-- The states stored by the first `n` instances of the point's first chunk. -/
def stA (n : ℕ) : List (View.Piece (Elt F) S32x128x128 .f32) := stSeq rd (nw la l1 pA) base n

/-- The states stored by the point's first chunk and the first `n` instances of its second. -/
def stB (n : ℕ) : List (View.Piece (Elt F) S32x128x128 .f32) :=
  stSeq (fun k L => v.readCov L (rS k).toLoadRect) (nw la l1 pB) (stA la l1 pA rd base 32) n

/-- The point's output tiles. -/
def outs : List (View.Piece (Elt F) S8x128x512 .bf16) :=
  outSeq 1 (fun k => ou la l1 mk gn pB k (v.readCov (stB v la l1 pA pB rd base k) (rS k).toLoadRect))
    (outSeq 0 (fun k => ou la l1 mk gn pA k (rd k (stA la l1 pA rd base k))) [] 32) 32

end

/-- A table's row of instance `n`'s head, as loaded. -/
def ldT (a : Memref sig .tc .vmem S4x1x128 .f32) (ha : a.IsWhole) (x : Vec F S4x1x128 .f32) (n : ℕ) : Vec F S1x1x128 .f32 :=
  View.readAt (Elt F) a.view (rT (n / 8)).toLoadRect (ha.unread x)

/-- The masks, as loaded. -/
def ldM (a : Memref sig .tc .vmem S7x64x64 .f32) (ha : a.IsWhole) (x : Vec F S7x64x64 .f32) (i : Fin 7) : Vec F S1x64x64 .f32 :=
  View.readAt (Elt F) a.view (rM i).toLoadRect (ha.unread x)

/-- The norm's weights, as loaded. -/
def ldG (a : Memref sig .tc .vmem S1x128 .f32) (ha : a.IsWhole) (x : Vec F S1x128 .f32) : Vec F S1x128 .f32 :=
  View.readAt (Elt F) a.view rG.toLoadRect (ha.unread x)

/-- Half `g` of a chunk's projection, as computed. -/
def prH (w : Memref sig .tc .vmem S4x2048x512 .bf16) (hw : w.IsWhole) (x3 : Vec F S4x2048x512 .bf16)
    (a : Memref sig .tc .vmem S8x64x2048 .bf16) (ha : a.IsWhole) (x : Vec F S8x64x2048 .bf16) (g : ℕ) : Vec F S512x256 .f32 :=
  projPiece (View.readAt (Elt F) a.view rH.toLoadRect (ha.unread x)) (View.readAt (Elt F) w.view (rWh g).toLoadRect (hw.unread x3))

/-- Head `e`'s projection of the first chunk, as computed. -/
def prI (w : Memref sig .tc .vmem S4x2048x512 .bf16) (hw : w.IsWhole) (x3 : Vec F S4x2048x512 .bf16)
    (a : Memref sig .tc .vmem S8x64x2048 .bf16) (ha : a.IsWhole) (x : Vec F S8x64x2048 .bf16) (e : ℕ) : Vec F S512x512 .f32 :=
  projInit (View.readAt (Elt F) a.view rH.toLoadRect (ha.unread x)) (View.readAt (Elt F) w.view (rW e).toLoadRect (hw.unread x3))

/-- A chunk's columns, as loaded from a buffer's contents. -/
def ldP (a : Memref sig .tc .vmem S512x2048 .f32) (ha : a.IsWhole) (x : Vec F S512x2048 .f32) (n : ℕ) (j : Fin 4) : Vec F S64x128 .f32 :=
  View.readAt (Elt F) a.view (rP n j).toLoadRect (ha.unread x)

/-- A chunk's columns, as loaded from what was stored. -/
def cvP (a : Memref sig .tc .vmem S512x2048 .f32) (L : List (View.Piece (Elt F) S512x2048 .f32)) (n : ℕ) (j : Fin 4) : Vec F S64x128 .f32 :=
  a.view.readCov L (rP n j).toLoadRect

/-- A state slot, as loaded from a buffer's contents. -/
def ldS (a : Memref sig .tc .vmem S32x128x128 .f32) (ha : a.IsWhole) (x : Vec F S32x128x128 .f32) (n : ℕ) : Vec F S1x128x128 .f32 :=
  View.readAt (Elt F) a.view (rS n).toLoadRect (ha.unread x)

end Cert.Pieces

end
-- ==== Proof.Fold.lean ====
module

public import proofs.«01_k».proof.Proof.Pieces

@[expose] public section

set_option maxRecDepth 16384

noncomputable section

/-!
# Reading back a list of stores to disjoint rectangles
-/

namespace Cert.Fold

open Idealize.ShloMosaic Cert.KernelIdeal Cert.KernelIdeal.Gen Cert.Block Cert.Pieces

section
variable {s : Shape} {e : EltTy} {Val : EltTy → Type} [∀ e, Nonempty (Val e)]

/-- The stores of the first `n` of a sequence of instances, each to its own rectangle, over what was stored before. -/
def seq (r : ℕ → Rect s) (w : (k : ℕ) → List (View.Piece Val s e) → (r k).shape.Idx → Val e) (base : List (View.Piece Val s e)) (n : ℕ) :
    List (View.Piece Val s e) :=
  Nat.rec base (fun k L => ⟨r k, w k L⟩ :: L) n

/-- An index no instance stores to reads what was stored before. -/
theorem canon_seq_base (r : ℕ → Rect s) (w : (k : ℕ) → List (View.Piece Val s e) → (r k).shape.Idx → Val e) (base : List (View.Piece Val s e))
    (y : s.Idx) (n : ℕ) (h : ∀ k < n, y ∉ (r k).set) : View.canon (seq r w base n) y = View.canon base y := by
  induction n with
  | zero => rfl
  | succ n ih =>
    show View.canon (⟨r n, w n (seq r w base n)⟩ :: seq r w base n) y = _
    rw [View.canon_cons_of_not_mem _ _ (h n (Nat.lt_succ_self n))]
    exact ih fun k hk => h k (Nat.lt_succ_of_lt hk)

/-- An index of instance `k`'s rectangle, and of no other's, reads what instance `k` stored. -/
theorem canon_seq_at (r : ℕ → Rect s) (w : (k : ℕ) → List (View.Piece Val s e) → (r k).shape.Idx → Val e) (base : List (View.Piece Val s e))
    (k : ℕ) (x : (r k).shape.Idx) (n : ℕ) (hk : k < n) (h : ∀ i < n, i ≠ k → (r k).emb x ∉ (r i).set) :
    View.canon (seq r w base n) ((r k).emb x) = w k (seq r w base k) x := by
  induction n with
  | zero => omega
  | succ n ih =>
    show View.canon (⟨r n, w n (seq r w base n)⟩ :: seq r w base n) _ = _
    by_cases hkn : k = n
    · subst hkn
      exact View.canon_cons_emb _ _ _ x
    · rw [View.canon_cons_of_not_mem _ _ (h n (Nat.lt_succ_self n) (Ne.symm hkn))]
      exact ih (by omega) fun i hi => h i (Nat.lt_succ_of_lt hi)

end

variable {F : FTy → Type} [FloatOps F]

/-- A state slot's indices are not in another's. -/
theorem slot_ne (k i : ℕ) (hk : k < 32) (hi : i < 32) (h : i ≠ k) (x : (rS k).shape.Idx) : (rS k).emb x ∉ (rS i).set := by
  intro hm
  have h0 : i % 32 ≤ k % 32 + 1 * (x 0).val ∧ k % 32 + 1 * (x 0).val < i % 32 + 1 := (Rect.mem_set_unit.mp hm) 0
  have h1 : (x 0).val < 1 := (x 0).isLt
  omega

/-- An output tile's indices are not in another instance's tile, nor in a tile of the other chunk. -/
theorem tile_ne (c d : Fin 2) (k i : ℕ) (hk : k < 32) (hi : i < 32) (h : ¬ (c = d ∧ i = k)) (x : (rO c k).shape.Idx) : (rO c k).emb x ∉ (rO d i).set := by
  intro hm
  have h0 : i % 8 ≤ k % 8 + 1 * (x 0).val ∧ k % 8 + 1 * (x 0).val < i % 8 + 1 := (Rect.mem_set_unit.mp hm) 0
  have h1 : 64 * d.val ≤ 64 * c.val + 1 * (x 1).val ∧ 64 * c.val + 1 * (x 1).val < 64 * d.val + 64 := (Rect.mem_set_unit.mp hm) 1
  have h2 : 128 * (i / 8 % 4) ≤ 128 * (k / 8 % 4) + 1 * (x 2).val ∧ 128 * (k / 8 % 4) + 1 * (x 2).val < 128 * (i / 8 % 4) + 128 := (Rect.mem_set_unit.mp hm) 2
  have b0 : (x 0).val < 1 := (x 0).isLt
  have b1 : (x 1).val < 64 := (x 1).isLt
  have b2 : (x 2).val < 128 := (x 2).isLt
  apply h
  refine ⟨Fin.ext ?_, ?_⟩ <;> omega

section
variable (v : View sig .tc .vmem S32x128x128 .f32) (la l1 : ℕ → Vec F S1x1x128 .f32) (mk : Fin 7 → Vec F S1x64x64 .f32) (gn : Vec F S1x128 .f32)
  (pA pB : ℕ → Fin 4 → Vec F S64x128 .f32) (rd : ℕ → List (View.Piece (Elt F) S32x128x128 .f32) → Vec F S1x128x128 .f32)
  (base : List (View.Piece (Elt F) S32x128x128 .f32)) (s0 : ℕ → Vec F S1x128x128 .f32)
  (hrd : ∀ k < 32, rd k (stA la l1 pA rd base k) = s0 k)

include hrd

/-- A state read in the second chunk is the first chunk's next state. -/
theorem read_stB (k n : ℕ) (hk : k < 32) (hn : n ≤ k) :
    v.readCov (stB v la l1 pA pB rd base n) (rS k).toLoadRect = nw la l1 pA k (s0 k) := by
  rw [View.readCov_eq_canon']
  funext x
  have e1 := canon_seq_base (Val := Elt F) rS (fun k L => nw la l1 pB k (v.readCov L (rS k).toLoadRect)) (stA la l1 pA rd base 32) ((rS k).emb x) n
    (fun i hi => slot_ne k i hk (by omega) (by omega) x)
  have e2 := canon_seq_at (Val := Elt F) rS (fun k L => nw la l1 pA k (rd k L)) base k x 32 hk (fun i hi hne => slot_ne k i hk hi hne x)
  refine e1.trans (e2.trans ?_)
  show nw la l1 pA k (rd k (stA la l1 pA rd base k)) x = _
  rw [hrd k hk]

/-- What the point leaves in a state slot: two chunks on from what it held. -/
theorem after_st (k : ℕ) (hk : k < 32) :
    View.ld (View.canon (stB v la l1 pA pB rd base 32)) (rS k) = nw la l1 pB k (nw la l1 pA k (s0 k)) := by
  funext x
  have e2 := canon_seq_at (Val := Elt F) rS (fun k L => nw la l1 pB k (v.readCov L (rS k).toLoadRect)) (stA la l1 pA rd base 32) k x 32 hk
    (fun i hi hne => slot_ne k i hk hi hne x)
  refine e2.trans ?_
  have e3 := read_stB v la l1 pA pB rd base s0 hrd k k hk le_rfl
  show nw la l1 pB k (v.readCov (stB v la l1 pA pB rd base k) (rS k).toLoadRect) x = _
  rw [e3]

/-- What the point leaves in a tile of its first chunk. -/
theorem after_out0 (k : ℕ) (hk : k < 32) :
    View.ld (View.canon (outs v la l1 mk gn pA pB rd base)) (rO 0 k) = ou la l1 mk gn pA k (s0 k) := by
  funext x
  have e1 := canon_seq_base (Val := Elt F) (rO 1) (fun k _ => ou la l1 mk gn pB k (v.readCov (stB v la l1 pA pB rd base k) (rS k).toLoadRect))
    (outSeq 0 (fun k => ou la l1 mk gn pA k (rd k (stA la l1 pA rd base k))) [] 32) ((rO 0 k).emb x) 32
    (fun i hi => tile_ne 0 1 k i hk hi (by simp) x)
  have e2 := canon_seq_at (Val := Elt F) (rO 0) (fun k _ => ou la l1 mk gn pA k (rd k (stA la l1 pA rd base k))) [] k x 32 hk
    (fun i hi hne => tile_ne 0 0 k i hk hi (by simp [hne]) x)
  refine e1.trans (e2.trans ?_)
  show ou la l1 mk gn pA k (rd k (stA la l1 pA rd base k)) x = _
  rw [hrd k hk]

/-- What the point leaves in a tile of its second chunk. -/
theorem after_out1 (k : ℕ) (hk : k < 32) :
    View.ld (View.canon (outs v la l1 mk gn pA pB rd base)) (rO 1 k) = ou la l1 mk gn pB k (nw la l1 pA k (s0 k)) := by
  funext x
  have e2 := canon_seq_at (Val := Elt F) (rO 1) (fun k _ => ou la l1 mk gn pB k (v.readCov (stB v la l1 pA pB rd base k) (rS k).toLoadRect))
    (outSeq 0 (fun k => ou la l1 mk gn pA k (rd k (stA la l1 pA rd base k))) [] 32) k x 32 hk
    (fun i hi hne => tile_ne 1 1 k i hk hi (by simp [hne]) x)
  refine e2.trans ?_
  show ou la l1 mk gn pB k (v.readCov (stB v la l1 pA pB rd base k) (rS k).toLoadRect) x = _
  rw [read_stB v la l1 pA pB rd base s0 hrd k k hk le_rfl]

end

/-- Before the first point's first chunk every slot holds the initial state. -/
theorem read_init (v : View sig .tc .vmem S32x128x128 .f32) (la l1 : ℕ → Vec F S1x1x128 .f32) (pA : ℕ → Fin 4 → Vec F S64x128 .f32) (k : ℕ) (hk : k < 32) :
    v.readCov (stA la l1 pA (fun k L => v.readCov L (rS k).toLoadRect) [⟨rZ, stInit⟩] k) (rS k).toLoadRect = View.ld (Val := Elt F) stInit (rS k) := by
  refine Eq.trans ?_ (View.readCov_fill (Val := Elt F) v (off := ![0, 0, 0]) (inb_z S32x128x128 ![0, 0, 0] (by decide)) (stInit (F := F)) [] (rS k) (by decide))
  rw [View.readCov_eq_canon', View.readCov_eq_canon']
  funext x
  exact canon_seq_base (Val := Elt F) rS (fun k L => nw la l1 pA k (v.readCov L (rS k).toLoadRect)) [⟨rZ, stInit⟩] ((rS k).emb x) k
    (fun i hi => slot_ne k i hk (by omega) (by omega) x)

/-- A position of instance `n`'s columns, in the half of the projection that holds it. -/
def inHalf (n : ℕ) (j : Fin 4) (x : S64x128.Idx) : S512x256.Idx
  | ⟨0, _⟩ => ⟨64 * (n % 8) + (x 0).val, by have : (x 0).val < 64 := (x 0).isLt; show _ < 512; omega⟩
  | ⟨1, _⟩ => ⟨128 * (j.val % 2) + (x 1).val, by have : (x 1).val < 128 := (x 1).isLt; show _ < 256; omega⟩

/-- A position of instance `n`'s columns, in its head's projection. -/
def inHead (n : ℕ) (j : Fin 4) (x : S64x128.Idx) : S512x512.Idx
  | ⟨0, _⟩ => ⟨64 * (n % 8) + (x 0).val, by have : (x 0).val < 64 := (x 0).isLt; show _ < 512; omega⟩
  | ⟨1, _⟩ => ⟨128 * j.val + (x 1).val, by have : (x 1).val < 128 := (x 1).isLt; show _ < 512; omega⟩

/-- The columns instance `n` reads of a projection stored in halves. -/
theorem ld_prSeq (pr : ℕ → Vec F S512x256 .f32) (base : List (View.Piece (Elt F) S512x2048 .f32)) (n : ℕ) (hn : n < 32) (j : Fin 4) (x : S64x128.Idx) :
    View.ld (View.canon (prSeq pr base 8)) (rP n j) x = pr (2 * (n / 8) + j.val / 2) (inHalf n j x) := by
  have hg : 2 * (n / 8) + j.val / 2 < 8 := by omega
  have b0 : (x 0).val < 64 := (x 0).isLt
  have b1 : (x 1).val < 128 := (x 1).isLt
  have hy : (rP n j).idx x = (rPh (2 * (n / 8) + j.val / 2)).emb (inHalf n j x) := by
    funext a; apply Fin.ext
    match a with
    | ⟨0, _⟩ => show 64 * (n % 8) + 1 * (x 0).val = 0 + 1 * (64 * (n % 8) + (x 0).val); omega
    | ⟨1, _⟩ =>
      show 512 * (n / 8 % 4) + 128 * j.val + 1 * (x 1).val = 512 * ((2 * (n / 8) + j.val / 2) / 2 % 4) + 256 * ((2 * (n / 8) + j.val / 2) % 2) + 1 * (128 * (j.val % 2) + (x 1).val)
      omega
  refine (congrArg (View.canon (Val := Elt F) _) hy).trans ?_
  refine canon_seq_at (Val := Elt F) rPh (fun k _ => pr k) base _ (inHalf n j x) 8 hg fun i hi hne hm => hne ?_
  have h1 : 512 * (i / 2 % 4) + 256 * (i % 2) ≤ 512 * ((2 * (n / 8) + j.val / 2) / 2 % 4) + 256 * ((2 * (n / 8) + j.val / 2) % 2) + 1 * (128 * (j.val % 2) + (x 1).val)
      ∧ 512 * ((2 * (n / 8) + j.val / 2) / 2 % 4) + 256 * ((2 * (n / 8) + j.val / 2) % 2) + 1 * (128 * (j.val % 2) + (x 1).val) < 512 * (i / 2 % 4) + 256 * (i % 2) + 256 := (Rect.mem_set_unit.mp hm) 1
  omega

/-- The columns instance `n` reads of a projection stored head by head. -/
theorem ld_piSeq (pr : ℕ → Vec F S512x512 .f32) (n : ℕ) (hn : n < 32) (j : Fin 4) (x : S64x128.Idx) :
    View.ld (View.canon (piSeq pr 4)) (rP n j) x = pr (n / 8) (inHead n j x) := by
  have b0 : (x 0).val < 64 := (x 0).isLt
  have b1 : (x 1).val < 128 := (x 1).isLt
  have hy : (rP n j).idx x = (rPi (n / 8)).emb (inHead n j x) := by
    funext a; apply Fin.ext
    match a with
    | ⟨0, _⟩ => show 64 * (n % 8) + 1 * (x 0).val = 0 + 1 * (64 * (n % 8) + (x 0).val); omega
    | ⟨1, _⟩ =>
      show 512 * (n / 8 % 4) + 128 * j.val + 1 * (x 1).val = 512 * (n / 8 % 4) + 1 * (128 * j.val + (x 1).val)
      omega
  refine (congrArg (View.canon (Val := Elt F) _) hy).trans ?_
  refine canon_seq_at (Val := Elt F) rPi (fun k _ => pr k) [] _ (inHead n j x) 4 (by omega) fun i hi hne hm => hne ?_
  have h1 : 512 * (i % 4) ≤ 512 * (n / 8 % 4) + 1 * (128 * j.val + (x 1).val) ∧ 512 * (n / 8 % 4) + 1 * (128 * j.val + (x 1).val) < 512 * (i % 4) + 512 := (Rect.mem_set_unit.mp hm) 1
  omega

end Cert.Fold

end
-- ==== Proof.Spec.lean ====
module

public import Idealize.ShloMosaic.Lib.Pointwise

@[expose] public section

noncomputable section

/-!
# One chunk of one head, as arithmetic on extended reals

A chunk is 64 tokens of one head of one batch row: queries, keys, values and log forget gates, each
64 by 128, and the state the chunk begins with, 128 by 128 (key coordinate first).
-/

namespace Cert.Spec

open Idealize.ShloMosaic

variable (q k v lf : Fin 64 → Fin 128 → EReal) (st : Fin 128 → Fin 128 → EReal)

/-- The running sum of the log forget gates. -/
def cum (t : Fin 64) (d : Fin 128) : EReal := ∑ i : Fin 64, if i ≤ t then lf i d else 0

/-- The decayed score of token `u` for token `t`. -/
def score (t u : Fin 64) : EReal :=
  ∑ d : Fin 128, q t d * k u d * Ideal.exp (if u ≤ t then cum lf t d - cum lf u d else ⊥)

/-- The chunk's outputs. -/
def out (t : Fin 64) (e : Fin 128) : EReal :=
  (∑ u : Fin 64, score q k lf t u * v u e) + ∑ d : Fin 128, q t d * Ideal.exp (cum lf t d) * st d e

/-- The state after the chunk. -/
def next (d e : Fin 128) : EReal :=
  Ideal.exp (cum lf 63 d) * st d e + ∑ t : Fin 64, k t d * Ideal.exp (cum lf 63 d - cum lf t d) * v t e

/-- The states before each chunk of a sequence of chunks, from zero. -/
def states (k v lf : ℕ → Fin 64 → Fin 128 → EReal) : ℕ → Fin 128 → Fin 128 → EReal
  | 0 => fun _ _ => 0
  | n + 1 => next (k n) (v n) (lf n) (states k v lf n)

/-- The state after one more chunk. -/
theorem states_succ (k v lf : ℕ → Fin 64 → Fin 128 → EReal) (n : ℕ) :
    states k v lf (n + 1) = next (k n) (v n) (lf n) (states k v lf n) := rfl

/-- The states depend on the chunks before them only. -/
theorem states_congr {k v lf k' v' lf' : ℕ → Fin 64 → Fin 128 → EReal} (n : ℕ) (hk : ∀ i < n, k i = k' i) (hv : ∀ i < n, v i = v' i)
    (hl : ∀ i < n, lf i = lf' i) : states k v lf n = states k' v' lf' n := by
  induction n with
  | zero => rfl
  | succ n ih =>
    rw [states_succ, states_succ, ih (fun i h => hk i (by omega)) (fun i h => hv i (by omega)) (fun i h => hl i (by omega)),
      hk n (by omega), hv n (by omega), hl n (by omega)]

/-- The softplus of `-z`, as it is computed. -/
def soft (z : Ideal FTy.f32) : Ideal FTy.f32 := max (-z) 0 + Ideal.log1p (Ideal.exp (-FloatOps.absf (F := Ideal) (φ := FTy.f32) (-z)))

/-- The log forget gate of a gate logit `z` and a lower bound `lb`, as the reference computes it. -/
def gate (lb z : Ideal FTy.f32) : Ideal FTy.f32 :=
  max (Ideal.log lb) (Ideal.log1p (-lb) - soft z) + Ideal.log1p (Ideal.exp (-FloatOps.absf (F := Ideal) (φ := FTy.f32) (Ideal.log lb - (Ideal.log1p (-lb) - soft z))))

/-- The root-mean-square norm of a row, its weight and the output gate. -/
def fin (o : Fin 128 → EReal) (w g : EReal) (e : Fin 128) : EReal :=
  o e * Ideal.rsqrt (Ideal.div (∑ x, o x * o x) (Ideal.ofBits FTy.f32 1124073472#32) + Ideal.ofBits FTy.f32 897988541#32) * w
    * (g * Ideal.logistic g)

end Cert.Spec

end
-- ==== Proof.Math.lean ====
module

public import proofs.«01_k».proof.Proof.Spec

@[expose] public section

noncomputable section

/-!
# The forget gate and its running sum
-/

namespace Cert.Math

open Idealize.ShloMosaic

/-- The absolute value at the ideal values. -/
theorem abs_eq (x : Ideal FTy.f32) : FloatOps.absf (F := Ideal) (φ := FTy.f32) x = max x (-x) := rfl

/-- `log (1 + e^a)` of a real. -/
theorem soft_coe (a : ℝ) : Ideal.log (1 + Ideal.exp (a : EReal)) = ((Real.log (1 + Real.exp a) : ℝ) : EReal) := by
  rw [Ideal.exp_coe, ← EReal.coe_one, ← EReal.coe_add, Ideal.log_coe, if_neg (by have := Real.exp_pos a; linarith)]

/-- The log of one. -/
theorem log_one : Ideal.log (1 : EReal) = 0 := by
  rw [← EReal.coe_one, Ideal.log_coe, if_neg (by norm_num), Real.log_one, EReal.coe_zero]

/-- The larger of two reals. -/
theorem max_coe (a b : ℝ) : max (a : EReal) (b : EReal) = ((max a b : ℝ) : EReal) := (EReal.coe_strictMono.monotone.map_max).symm

/-- The smaller of two reals. -/
theorem min_coe (a b : ℝ) : min (a : EReal) (b : EReal) = ((min a b : ℝ) : EReal) := (EReal.coe_strictMono.monotone.map_min).symm

/-- The log of the lower bound's complement. -/
theorem comp_coe (lb : ℝ) (h : lb < 1) : Ideal.log1p (-(lb : EReal)) = ((Real.log (1 - lb) : ℝ) : EReal) := by
  show Ideal.log (1 + -(lb : EReal)) = _
  rw [← EReal.coe_one, ← EReal.coe_neg, ← EReal.coe_add, Ideal.log_coe, if_neg (by linarith), ← sub_eq_add_neg]

/-- The kernel's complement branch of the forget gate. -/
def branch (l1 z : Ideal FTy.f32) : Ideal FTy.f32 :=
  l1 + min z 0 - Ideal.log (1 + Ideal.exp (0 - FloatOps.absf (F := Ideal) (φ := FTy.f32) z))

/-- The kernel's log forget gate. -/
def gate (la l1 z : Ideal FTy.f32) : Ideal FTy.f32 :=
  max la (branch l1 z) + Ideal.log (1 + Ideal.exp (0 - FloatOps.absf (F := Ideal) (φ := FTy.f32) (la - branch l1 z)))

/-- The kernel's branch is the reference's. -/
theorem branch_eq (l : ℝ) (z : EReal) : branch (l : EReal) z = (l : EReal) - Spec.soft z := by
  unfold branch Spec.soft
  rw [abs_eq, abs_eq]
  show _ = (l : EReal) - (max (-z) 0 + Ideal.log (1 + _))
  induction z with
  | bot => simp [log_one]
  | top => simp [log_one]
  | coe z =>
    rw [zero_sub, ← EReal.coe_zero, ← EReal.coe_neg, ← EReal.coe_neg, max_coe, max_coe, max_coe, min_coe, ← EReal.coe_neg, ← EReal.coe_neg, soft_coe, soft_coe,
      ← EReal.coe_add, ← EReal.coe_add, ← EReal.coe_sub, ← EReal.coe_sub, EReal.coe_eq_coe_iff, neg_neg, max_comm (-z) z]
    have : min z 0 = - max (-z) 0 := by rw [← min_neg_neg, neg_neg, neg_zero]
    rw [this]; ring

/-- The reference's branch: minus infinity, or a real below the log of the complement. -/
theorem branch_cases (l : ℝ) (z : EReal) : (l : EReal) - Spec.soft z = ⊥ ∨ ∃ b : ℝ, b ≤ l ∧ (l : EReal) - Spec.soft z = (b : EReal) := by
  unfold Spec.soft
  rw [abs_eq]
  show (l : EReal) - (max (-z) 0 + Ideal.log (1 + _)) = ⊥ ∨ ∃ b : ℝ, b ≤ l ∧ (l : EReal) - (max (-z) 0 + Ideal.log (1 + _)) = (b : EReal)
  induction z with
  | bot => left; simp [log_one]
  | top => right; exact ⟨l, le_rfl, by simp [log_one]⟩
  | coe z =>
    right
    rw [← EReal.coe_zero, ← EReal.coe_neg, ← EReal.coe_neg, max_coe, max_coe, ← EReal.coe_neg, soft_coe, ← EReal.coe_add, ← EReal.coe_sub]
    refine ⟨_, ?_, rfl⟩
    have h1 : 0 ≤ max (-z) 0 := le_max_right _ _
    have h2 : 0 ≤ Real.log (1 + Real.exp (-max (-z) (- -z))) := Real.log_nonneg (by have := Real.exp_pos (-max (-z) (- -z)); linarith)
    linarith

/-- The log of a sum of exponentials, from the larger. -/
theorem lse (a b : ℝ) : max a b + Real.log (1 + Real.exp (-max (a - b) (-(a - b)))) = Real.log (Real.exp a + Real.exp b) := by
  have key : ∀ x y : ℝ, x + Real.log (1 + Real.exp (-(x - y))) = Real.log (Real.exp x + Real.exp y) := by
    intro x y
    have e : Real.exp x + Real.exp y = Real.exp x * (1 + Real.exp (-(x - y))) := by
      rw [mul_add, mul_one, ← Real.exp_add]; congr 2; ring
    rw [e, Real.log_mul (Real.exp_pos x).ne' (by have := Real.exp_pos (-(x - y)); linarith), Real.log_exp]
  rcases le_total a b with h | h
  · rw [max_eq_right h, max_eq_right (by linarith), add_comm (Real.exp a), neg_sub a b]; exact key b a
  · rw [max_eq_left h, max_eq_left (by linarith)]; exact key a b

/-- The log forget gate is a real, not positive. -/
theorem gate_real (lb : ℝ) (h0 : 0 < lb) (h1 : lb < 1) (z : EReal) : ∃ r : ℝ, r ≤ 0 ∧ Spec.gate (lb : EReal) z = (r : EReal) := by
  unfold Spec.gate
  rw [comp_coe lb h1, abs_eq, Ideal.log_coe, if_neg (by linarith)]
  show ∃ r : ℝ, r ≤ 0 ∧ max ((Real.log lb : ℝ) : EReal) _ + Ideal.log (1 + _) = (r : EReal)
  rcases branch_cases (Real.log (1 - lb)) z with h | ⟨b, hb, h⟩
  · rw [h]
    exact ⟨Real.log lb, Real.log_nonpos h0.le h1.le, by simp [log_one]⟩
  · rw [h, ← EReal.coe_sub, ← EReal.coe_neg, max_coe, max_coe, ← EReal.coe_neg, soft_coe, ← EReal.coe_add, lse]
    refine ⟨_, ?_, rfl⟩
    refine Real.log_nonpos (by have := Real.exp_pos (Real.log lb); have := Real.exp_pos b; linarith) ?_
    have e1 := Real.exp_le_exp.mpr hb
    rw [Real.exp_log (by linarith)] at e1
    rw [Real.exp_log h0]
    linarith

/-- The kernel's log forget gate is the reference's. -/
theorem gate_eq (lb : ℝ) (h1 : lb < 1) (z : EReal) : gate (Ideal.log (lb : EReal)) (Ideal.log1p (-(lb : EReal))) z = Spec.gate (lb : EReal) z := by
  unfold gate Spec.gate
  rw [comp_coe lb h1, branch_eq, zero_sub]
  rfl

/-- The running sum of reals. -/
theorem cum_coe (lf : Fin 64 → Fin 128 → EReal) (r : Fin 64 → Fin 128 → ℝ) (h : ∀ t d, lf t d = (r t d : EReal)) (t : Fin 64) (d : Fin 128) :
    Spec.cum lf t d = ((∑ i : Fin 64, if i ≤ t then r i d else 0 : ℝ) : EReal) := by
  unfold Spec.cum
  have hs : ∀ s : Finset (Fin 64), ((∑ i ∈ s, if i ≤ t then r i d else 0 : ℝ) : EReal) = ∑ i ∈ s, if i ≤ t then lf i d else 0 := by
    intro s
    induction s using Finset.induction_on with
    | empty => simp
    | insert a s ha ih =>
      rw [Finset.sum_insert ha, Finset.sum_insert ha, EReal.coe_add, ih]
      congr 1
      split
      · exact (h a d).symm
      · rfl
  exact (hs Finset.univ).symm

/-- The running sum of reals that are not positive falls. -/
theorem cum_anti (r : Fin 64 → Fin 128 → ℝ) (h : ∀ t d, r t d ≤ 0) (u t : Fin 64) (hut : u ≤ t) (d : Fin 128) :
    (∑ i : Fin 64, if i ≤ t then r i d else 0) ≤ ∑ i : Fin 64, if i ≤ u then r i d else 0 := by
  refine Finset.sum_le_sum fun i _ => ?_
  by_cases h1 : i ≤ u
  · rw [if_pos h1, if_pos (h1.trans hut)]
  · rw [if_neg h1]
    split
    · exact h i d
    · exact le_rfl

/-- Two decays to a row in between make the decay over the whole way. -/
theorem decay (a m b : ℝ) (h1 : a ≤ m) (h2 : m ≤ b) (q k : EReal) :
    q * Ideal.exp (0 - FloatOps.absf (F := Ideal) (φ := FTy.f32) ((a : EReal) - (m : EReal)))
      * (k * Ideal.exp (0 - FloatOps.absf (F := Ideal) (φ := FTy.f32) ((b : EReal) - (m : EReal))))
      = q * k * Ideal.exp ((a : EReal) - (b : EReal)) := by
  rw [abs_eq, abs_eq, ← EReal.coe_sub, ← EReal.coe_sub, ← EReal.coe_sub, zero_sub, zero_sub, ← EReal.coe_neg, ← EReal.coe_neg, max_coe, max_coe,
    ← EReal.coe_neg, ← EReal.coe_neg, Ideal.exp_coe, Ideal.exp_coe, Ideal.exp_coe, max_eq_right (by linarith), max_eq_left (by linarith),
    mul_mul_mul_comm, ← EReal.coe_mul, ← Real.exp_add]
  congr 3
  ring

/-- One minus a real gate. -/
theorem key_eq (r : ℝ) : 1 - Ideal.exp (r : EReal) = -(Ideal.exp (r : EReal) - 1) := by
  rw [Ideal.exp_coe, ← EReal.coe_one, ← EReal.coe_sub, ← EReal.coe_sub, ← EReal.coe_neg]
  congr 1
  ring

/-- The sum of what stands at most `n − 1` rows above. -/
def win (x : Fin 64 → EReal) (n : ℕ) (t : Fin 64) : EReal := ∑ i : Fin 64, if i ≤ t ∧ t.val < i.val + n then x i else 0

/-- A window of one row is the row. -/
theorem win_one (x : Fin 64 → EReal) (t : Fin 64) : win x 1 t = x t := by
  unfold win
  rw [Finset.sum_eq_single t]
  · rw [if_pos ⟨le_rfl, by omega⟩]
  · intro i _ hi
    refine if_neg fun h => hi (Fin.ext ?_)
    have : i.val ≤ t.val := h.1
    omega
  · intro h; exact absurd (Finset.mem_univ _) h

/-- A window of 64 rows is the running sum. -/
theorem win_all (x : Fin 64 → EReal) (t : Fin 64) : win x 64 t = ∑ i : Fin 64, if i ≤ t then x i else 0 := by
  unfold win
  refine Finset.sum_congr rfl fun i _ => ?_
  simp only [show t.val < i.val + 64 by omega, and_true]

/-- Two windows one after the other make one twice as long. -/
theorem win_double (x : Fin 64 → EReal) (n m : ℕ) (t : Fin 64) (t' : Fin 64) (ht : m ≤ t.val → t'.val = t.val - m) :
    win x m t + (if m ≤ t.val then win x n t' else 0) = win x (m + n) t := by
  unfold win
  by_cases h : m ≤ t.val
  · rw [if_pos h, ← Finset.sum_add_distrib]
    refine Finset.sum_congr rfl fun i _ => ?_
    have := ht h
    have e1 : i ≤ t ↔ i.val ≤ t.val := Iff.rfl
    have e2 : i ≤ t' ↔ i.val ≤ t'.val := Iff.rfl
    simp only [e1, e2]
    by_cases ha : i.val ≤ t.val ∧ t.val < i.val + m
    · rw [if_pos ha, if_neg (by omega), if_pos (by omega), add_zero]
    · by_cases hb : i.val ≤ t'.val ∧ t'.val < i.val + n
      · rw [if_neg ha, if_pos hb, if_pos (by omega), zero_add]
      · rw [if_neg ha, if_neg hb, if_neg (by omega), zero_add]
  · rw [if_neg h, add_zero]
    refine Finset.sum_congr rfl fun i _ => ?_
    have e1 : i ≤ t ↔ i.val ≤ t.val := Iff.rfl
    simp only [e1]
    by_cases ha : i.val ≤ t.val
    · rw [if_pos ⟨ha, by omega⟩, if_pos ⟨ha, by omega⟩]
    · rw [if_neg fun h => ha h.1, if_neg fun h => ha h.1]

end Cert.Math

end
-- ==== Proof.BlockVal.lean ====
module

public import proofs.«01_k».proof.Proof.Block
public import proofs.«01_k».proof.Proof.Math

@[expose] public section

set_option maxRecDepth 16384

noncomputable section

/-!
# The kernel's block functions, at an index
-/

namespace Cert.BlockVal

open Idealize.ShloMosaic Cert.KernelIdeal Cert.KernelIdeal.Gen Cert.Block

/-! ## The running sum -/

/-- The row comparison of a doubling step. -/
theorem row_cmp (n : ℕ) (hn : n < 64) (t : Fin 64) (x y : EReal) :
    Scalar.select (IntOp.cmpi .sge (BitVec.ofNat 32 t.val) (BitVec.ofNat 32 n)) x y = if n ≤ t.val then x else y := by
  have h : ∀ (n t : Fin 64), IntOp.cmpi .sge (BitVec.ofNat 32 t.val) (BitVec.ofNat 32 n.val) = if n.val ≤ t.val then 1#1 else 0#1 := by decide +kernel
  rw [h ⟨n, hn⟩ t]
  show Scalar.select (if n ≤ t.val then 1#1 else 0#1) x y = _
  split <;> rfl

/-- One doubling step at an index. -/
theorem shiftAdd_at (n : ℕ) (hn : n < 64) (x : FVec Ideal S64x128 .f32) (t : Fin 64) (c : Fin 128) :
    shiftAdd (BitVec.ofNat 32 n) x (ix2 t c) = x (ix2 t c) + if n ≤ t.val then x (ix2 ⟨(t.val + 64 - n) % 64, Nat.mod_lt _ (by omega)⟩ c) else 0 := by
  have e : (BitVec.ofNat 32 n).toNat % 64 = n := by
    rw [BitVec.toNat_ofNat, Nat.mod_eq_of_lt (show n < 2 ^ 32 by omega), Nat.mod_eq_of_lt hn]
  rw [← row_cmp n hn]
  pointwise [shiftAdd, kst, rowIx]
  simp only [e]

/-- A doubling step doubles a window. -/
theorem shiftAdd_win (n : ℕ) (hn : n < 64) (x : FVec Ideal S64x128 .f32) (f : Fin 64 → Fin 128 → EReal)
    (h : ∀ t c, x (ix2 t c) = Math.win (fun i => f i c) n t) (t : Fin 64) (c : Fin 128) :
    shiftAdd (BitVec.ofNat 32 n) x (ix2 t c) = Math.win (fun i => f i c) (n + n) t := by
  rw [shiftAdd_at n hn, h, h, Math.win_double]
  intro hm
  show (t.val + 64 - n) % 64 = t.val - n
  omega

/-- The kernel's running sum. -/
theorem cum_at (x : FVec Ideal S64x128 .f32) (f : Fin 64 → Fin 128 → EReal) (h : ∀ t c, x (ix2 t c) = f t c) (t : Fin 64) (c : Fin 128) :
    cum x (ix2 t c) = Spec.cum f t c := by
  unfold cum Spec.cum
  rw [← Math.win_all (fun i => f i c)]
  refine shiftAdd_win 32 (by omega) _ f (fun t c => ?_) t c
  refine shiftAdd_win 16 (by omega) _ f (fun t c => ?_) t c
  refine shiftAdd_win 8 (by omega) _ f (fun t c => ?_) t c
  refine shiftAdd_win 4 (by omega) _ f (fun t c => ?_) t c
  refine shiftAdd_win 2 (by omega) _ f (fun t c => ?_) t c
  refine shiftAdd_win 1 (by omega) _ f (fun t c => ?_) t c
  rw [Math.win_one, h]

/-! ## The middle rows -/

/-- The comparison of a row within its group of 8. -/
theorem sub_cmp (n : ℕ) (hn : n < 8) (t : Fin 64) (x y : EReal) :
    Scalar.select (IntOp.cmpi .sge (BitVec.ofNat 32 (t.val % 8)) (BitVec.ofNat 32 n)) x y = if n ≤ t.val % 8 then x else y := by
  have h : ∀ (n : Fin 8) (t : Fin 64), IntOp.cmpi .sge (BitVec.ofNat 32 (t.val % 8)) (BitVec.ofNat 32 n.val) = if n.val ≤ t.val % 8 then 1#1 else 0#1 := by decide +kernel
  rw [h ⟨n, hn⟩ t]
  show Scalar.select (if n ≤ t.val % 8 then 1#1 else 0#1) x y = _
  split <;> rfl

/-- The middle row (the last of the first half) of the group of `2 w` rows a row is in. -/
def mid (w : ℕ) (t : Fin 64) : Fin 64 := ⟨(t.val / (2 * w) * (2 * w) + (w - 1)) % 64, Nat.mod_lt _ (by omega)⟩

section
variable (x : FVec Ideal S64x128 .f32) (t : Fin 64) (c : Fin 128)

theorem ref32_at : ref32 x (ix2 t c) = x (ix2 (mid 32 t) c) := by
  pointwise [ref32]
  exact congrArg (fun i => x (ix2 i c)) (Fin.ext (by simp only [mid]; omega))

theorem ref16_at : ref16 x (ix2 t c) = x (ix2 (mid 16 t) c) := by
  pointwise [ref16]
  exact congrArg (fun i => x (ix2 i c)) (Fin.ext (by simp only [mid]; omega))

theorem ref8_at : ref8 x (ix2 t c) = x (ix2 (mid 8 t) c) := by
  pointwise [ref8]
  exact congrArg (fun i => x (ix2 i c)) (Fin.ext (by simp only [mid]; omega))

theorem ref4_at : ref4 x (ix2 t c) = x (ix2 (mid 4 t) c) := by
  pointwise [ref4, bc8, by8, subIx]
  exact congrArg (fun i => x (ix2 i c)) (Fin.ext (by simp only [mid]; omega))

theorem ref2_at : ref2 x (ix2 t c) = x (ix2 (mid 2 t) c) := by
  pointwise [ref2, fromRow, bc8, by8, subIx]
  rw [sub_cmp 4 (by omega)]
  split <;> exact congrArg (fun i => x (ix2 i c)) (Fin.ext (by simp only [mid]; omega))

theorem ref1_at : ref1 x (ix2 t c) = x (ix2 (mid 1 t) c) := by
  pointwise [ref1, fromRow, bc8, by8, subIx]
  rw [sub_cmp 6 (by omega), sub_cmp 4 (by omega), sub_cmp 2 (by omega)]
  split
  · exact congrArg (fun i => x (ix2 i c)) (Fin.ext (by simp only [mid]; omega))
  split
  · exact congrArg (fun i => x (ix2 i c)) (Fin.ext (by simp only [mid]; omega))
  split <;> exact congrArg (fun i => x (ix2 i c)) (Fin.ext (by simp only [mid]; omega))
end

/-! ## The scores -/

/-- Where a level's mask is on: the row in the second half of a group, the column in the first half of the same group. -/
def on (w : ℕ) (t u : Fin 64) : Bool :=
  decide (t.val / (2 * w) = u.val / (2 * w)) && (decide (w ≤ t.val % (2 * w)) && decide (u.val % (2 * w) < w))

/-- The levels' half widths; the last is the diagonal. -/
def isOn (j : Fin 7) (t u : Fin 64) : Bool :=
  match j with
  | ⟨0, _⟩ => on 32 t u
  | ⟨1, _⟩ => on 16 t u
  | ⟨2, _⟩ => on 8 t u
  | ⟨3, _⟩ => on 4 t u
  | ⟨4, _⟩ => on 2 t u
  | ⟨5, _⟩ => on 1 t u
  | ⟨_ + 6, _⟩ => decide (t = u)

/-- What the masks hold. -/
def Masks (mk : Fin 7 → Vec Ideal S1x64x64 .f32) : Prop :=
  ∀ j t u, Ideal.ofBits .f32 1056964608#32 < mk j (ix3 0 t u) ↔ isOn j t u = true

/-- One level where its mask is on, for a row between the two tokens. -/
theorem lvl_at (m : Vec Ideal S1x64x64 .f32) (q k : FVec Ideal S64x128 .bf16) (b r : FVec Ideal S64x128 .f32) (s : FVec Ideal S64x64 .f32)
    (w : ℕ) (hr : ∀ t c, r (ix2 t c) = b (ix2 (mid w t) c)) (B : Fin 64 → Fin 128 → ℝ)
    (hb : ∀ t c, b (ix2 t c) = (B t c : EReal)) (hB : ∀ u t, u ≤ t → ∀ c, B t c ≤ B u c)
    (hm : ∀ t u, Ideal.ofBits .f32 1056964608#32 < m (ix3 0 t u) ↔ on w t u = true)
    (hw : ∀ t u, on w t u = true → mid w t = mid w u ∧ u ≤ mid w t ∧ mid w t ≤ t) (t u : Fin 64) :
    lvl m q k (dec b r) s (ix2 t u) = if on w t u = true then ∑ x, q (ix2 t x) * k (ix2 u x) * Ideal.exp ((B t x : EReal) - (B u x : EReal)) else s (ix2 t u) := by
  pointwise [lvl, msk, qk, kst, dec, nabs]
  by_cases h : on w t u = true
  · rw [if_pos ((hm t u).mpr h), if_pos h]
    refine Finset.sum_congr rfl fun x _ => ?_
    obtain ⟨h1, h2, h3⟩ := hw t u h
    rw [hr, hr, hb, hb, hb, hb, ← h1]
    exact Math.decay _ _ _ (hB _ _ h3 x) (hB _ _ h2 x) _ _
  · rw [if_neg fun h' => h ((hm t u).mp h'), if_neg h]

/-- The kernel's scores. -/
theorem scores_at (mk : Fin 7 → Vec Ideal S1x64x64 .f32) (hm : Masks mk) (q k : FVec Ideal S64x128 .bf16) (b : FVec Ideal S64x128 .f32)
    (B : Fin 64 → Fin 128 → ℝ) (hb : ∀ t c, b (ix2 t c) = (B t c : EReal)) (hB : ∀ u t, u ≤ t → ∀ c, B t c ≤ B u c) (t u : Fin 64) :
    scores mk q k b (ix2 t u)
      = ∑ x : Fin 128, q (ix2 t x) * k (ix2 u x) * Ideal.exp (if u ≤ t then (B t x : EReal) - (B u x : EReal) else ⊥) := by
  have W : ∀ w ∈ [1, 2, 4, 8, 16, 32], ∀ t u, on w t u = true → mid w t = mid w u ∧ u ≤ mid w t ∧ mid w t ≤ t := by decide +kernel
  have cover : ∀ t u : Fin 64, (on 1 t u || (on 2 t u || (on 4 t u || (on 8 t u || (on 16 t u || on 32 t u))))) = decide (u < t) := by decide +kernel
  unfold scores
  rw [lvl_at (mk 5) q k b _ _ 1 (ref1_at b) B hb hB (hm 5) (W 1 (by decide)),
    lvl_at (mk 4) q k b _ _ 2 (ref2_at b) B hb hB (hm 4) (W 2 (by decide)),
    lvl_at (mk 3) q k b _ _ 4 (ref4_at b) B hb hB (hm 3) (W 4 (by decide)),
    lvl_at (mk 2) q k b _ _ 8 (ref8_at b) B hb hB (hm 2) (W 8 (by decide)),
    lvl_at (mk 1) q k b _ _ 16 (ref16_at b) B hb hB (hm 1) (W 16 (by decide)),
    lvl_at (mk 0) q k b _ _ 32 (ref32_at b) B hb hB (hm 0) (W 32 (by decide))]
  have hc := cover t u
  by_cases hut : u < t
  · simp only [if_pos hut.le]
    rw [decide_eq_true hut] at hc
    simp only [Bool.or_eq_true] at hc
    split
    · rfl
    split
    · rfl
    split
    · rfl
    split
    · rfl
    split
    · rfl
    split
    · rfl
    · rename_i h1 h2 h3 h4 h5 h6
      rcases hc with h | h | h | h | h | h <;> contradiction
  · rw [decide_eq_false hut] at hc
    simp only [Bool.or_eq_false_iff] at hc
    obtain ⟨h1, h2, h3, h4, h5, h6⟩ := hc
    simp only [h1, h2, h3, h4, h5, h6, Bool.false_eq_true, if_false]
    have hd := hm 6 t u
    pointwise [msk, qk, kst]
    by_cases he : t = u
    · rw [if_pos (hd.mpr (decide_eq_true he))]
      subst he
      refine Finset.sum_congr rfl fun x _ => ?_
      rw [if_pos le_rfl, ← EReal.coe_sub, sub_self, Ideal.exp_coe, Real.exp_zero, EReal.coe_one, mul_one]
    · rw [if_neg fun h => he (of_decide_eq_true (hd.mp h))]
      have hn : ¬ u ≤ t := fun h => hut (lt_of_le_of_ne h (Ne.symm he))
      refine (Finset.sum_eq_zero fun x _ => ?_).symm
      rw [if_neg hn, Ideal.exp_bot, mul_zero]

/-! ## A chunk -/

section
variable (la l1 : Vec Ideal S1x1x128 .f32) (mk : Fin 7 → Vec Ideal S1x64x64 .f32) (hm : Masks mk) (gn : Vec Ideal S1x128 .f32)
  (q z v g : Vec Ideal S64x128 .f32) (st : Vec Ideal S1x128x128 .f32) (lb : Fin 128 → ℝ) (h0 : ∀ c, 0 < lb c) (h1 : ∀ c, lb c < 1)
  (hla : ∀ c, la (ix3 0 0 c) = Ideal.log (lb c : EReal)) (hl1 : ∀ c, l1 (ix3 0 0 c) = Ideal.log1p (-(lb c : EReal)))

/-- The chunk's log forget gates. -/
def lfz (t : Fin 64) (c : Fin 128) : EReal := Spec.gate (lb c : EReal) (z (ix2 t c))

/-- The chunk's keys. -/
def keyz (t : Fin 64) (c : Fin 128) : EReal := -(Ideal.exp (lfz z lb t c) - 1)

include h1 hla hl1

theorem logF_at (t : Fin 64) (c : Fin 128) : logF (row la) (row l1) z (ix2 t c) = lfz z lb t c := by
  unfold lfz
  rw [← Math.gate_eq (lb c) (h1 c), ← hla, ← hl1]
  unfold Math.gate Math.branch
  pointwise [logF, gateB, soft, nabs, row, kst]

theorem bcum_at (t : Fin 64) (c : Fin 128) : bcum la l1 z (ix2 t c) = Spec.cum (lfz z lb) t c :=
  cum_at _ _ (logF_at la l1 z lb h1 hla hl1) t c

include h0

theorem kz_at (t : Fin 64) (c : Fin 128) : kz la l1 z (ix2 t c) = keyz z lb t c := by
  obtain ⟨r, _, hr⟩ := Math.gate_real (lb c) (h0 c) (h1 c) (z (ix2 t c))
  have e := logF_at la l1 z lb h1 hla hl1 t c
  unfold keyz
  have e' : lfz z lb t c = (r : EReal) := hr
  rw [e'] at e ⊢
  rw [← Math.key_eq, ← e]
  pointwise [kz, kn, kst]

include hm

theorem mix_at (t : Fin 64) (c : Fin 128) : mix mk (qn q) (kz la l1 z) (qn v) (bcum la l1 z) (stm st) (ix2 t c)
    = Spec.out (fun t d => q (ix2 t d)) (keyz z lb) (fun t e => v (ix2 t e)) (lfz z lb) (fun d e => st (ix3 0 e d)) t c := by
  choose r hr0 hr using fun t c => Math.gate_real (lb c) (h0 c) (h1 c) (z (ix2 t c))
  have hb : ∀ t c, bcum la l1 z (ix2 t c) = ((∑ i : Fin 64, if i ≤ t then r i c else 0 : ℝ) : EReal) := by
    intro t c
    rw [bcum_at la l1 z lb h1 hla hl1]
    exact Math.cum_coe _ r hr t c
  have hs := scores_at mk hm (qn q) (kz la l1 z) (bcum la l1 z) (fun t c => ∑ i : Fin 64, if i ≤ t then r i c else 0) hb (fun u t h c => Math.cum_anti r hr0 u t h c)
  unfold Spec.out Spec.score
  pointwise [mix, qin]
  refine congrArg₂ (· + ·) (Finset.sum_congr rfl fun u _ => ?_) (Finset.sum_congr rfl fun d _ => ?_)
  · rw [hs]
    refine congrArg₂ (· * ·) (Finset.sum_congr rfl fun x _ => ?_) rfl
    rw [kz_at la l1 z lb h0 h1 hla hl1, ← hb, ← hb, bcum_at la l1 z lb h1 hla hl1, bcum_at la l1 z lb h1 hla hl1]
    rfl
  · rw [bcum_at la l1 z lb h1 hla hl1]
    have e : stm st (ix2 c d) = st (ix3 0 c d) := by pointwise [stm]
    rw [e]
    rfl

/-- The output tile of a chunk. -/
theorem hgOut_at (t : Fin 64) (c : Fin 128) : hgOut la l1 mk gn q z v g st (ix3 0 t c)
    = Spec.fin (Spec.out (fun t d => q (ix2 t d)) (keyz z lb) (fun t e => v (ix2 t e)) (lfz z lb) (fun d e => st (ix3 0 e d)) t) (gn (ix2 0 c)) (g (ix2 t c)) c := by
  have e := fun c => mix_at la l1 mk hm q z v st lb h0 h1 hla hl1 t c
  unfold hgOut Spec.fin
  generalize mix mk (qn q) (kz la l1 z) (qn v) (bcum la l1 z) (stm st) = o at e ⊢
  simp only [← e]
  pointwise [fin, kst]

omit hm

/-- The state after a chunk. -/
theorem hgSt_at (e d : Fin 128) : hgSt la l1 z v st (ix3 0 e d)
    = Spec.next (keyz z lb) (fun t e => v (ix2 t e)) (lfz z lb) (fun d e => st (ix3 0 e d)) d e := by
  unfold hgSt Spec.next
  have hk := kz_at la l1 z lb h0 h1 hla hl1
  have hb := bcum_at la l1 z lb h1 hla hl1
  generalize kz la l1 z = k at hk ⊢
  generalize bcum la l1 z = b at hb ⊢
  simp only [← hk, ← hb]
  pointwise [nxt, last, kout, qn, stm]
  refine congrArg₂ (· + ·) rfl (Finset.sum_congr rfl fun x _ => ?_)
  exact mul_comm _ _

end

end Cert.BlockVal

end
-- ==== Proof.RefRun.lean ====
/- The reference's run, stated as the trip function of the step module iterated 64 times from its first state. -/
module

public import proofs.«01_k».proof.Proof.Gen.ReferenceIdeal.Run
public import proofs.«01_k».proof.Proof.Gen.ReferenceIdeal.Step

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- What the loop's buffers hold, read as a state of the step module. -/
def held (V : Valuation τ sig (Elt F)) : State F where
  main_v53_6 := V (Proc.devRef .tc main_v53_6)
  main_v53_7 := V (Proc.devRef .tc main_v53_7)
  main_v53_0 := V (Proc.devRef .tc main_v53_0)
  main_v53_1 := V (Proc.devRef .tc main_v53_1)
  main_v53_2 := V (Proc.devRef .tc main_v53_2)
  main_v53_3 := V (Proc.devRef .tc main_v53_3)

/-- The buffers hold state `s`, the causal mask and the trip's number `j`. -/
def At (V : Valuation τ sig (Elt F)) (s : State F) (j : ℕ) : Prop :=
  held V = s ∧ V (Proc.devRef .tc main_v53_4) = Step.K_main_v50 (F := F)
    ∧ V (Proc.devRef .tc main_v53_5) = constantI S_ 32 (BitVec.ofNat 32 j)

/-- One trip's state buffer is the step module's. -/
theorem trip_state (V : Valuation τ sig (Elt F)) (j : ℕ)
    (h5 : V (Proc.devRef .tc main_v53_5) = constantI S_ 32 (BitVec.ofNat 32 j)) :
    step_main_v53_6 V = Step.b63 j (held V) := by
  unfold step_main_v53_6 res_main_while0b_v78 res_main_while0b_v79 res_main_while0b_v102 res_main_while0b_v81
  rw [h5]
  rfl

/-- One trip's stacked outputs are the step module's. -/
theorem trip_outs (V : Valuation τ sig (Elt F)) (j : ℕ)
    (h4 : V (Proc.devRef .tc main_v53_4) = Step.K_main_v50 (F := F))
    (h5 : V (Proc.devRef .tc main_v53_5) = constantI S_ 32 (BitVec.ofNat 32 j)) :
    step_main_v53_7 V = Step.b69 j (held V) := by
  unfold step_main_v53_7 res_main_while0b_v77 res_main_while0b_v78 res_main_while0b_v79 res_main_while0b_v81
  rw [h4, h5]
  rfl

/-- The operations after the loop, as the step module's. -/
theorem outs_eq (V : Valuation τ sig (Elt F)) :
    out_main_v76 V = Step.R_main_v76 (held V) (V (Proc.devRef .tc main_arg0)) (V (Proc.devRef .tc main_arg1))
      (V (Proc.devRef .tc main_arg3)) := by
  unfold out_main_v76 Step.R_main_v76
  rfl

/-- One trip takes a state to its step and the number to the next. -/
theorem At.next {V : Valuation τ sig (Elt F)} {s : State F} {j : ℕ} (h : At V s j) :
    At (STEP V) (step j s) (j + 1) := by
  obtain ⟨rfl, h4, h5⟩ := h
  refine ⟨?_, (STEP_main_v53_4 V).trans h4, (STEP_main_v53_5 V).trans ?_⟩
  · unfold held step
    rw [STEP_main_v53_6, STEP_main_v53_7, STEP_main_v53_0, STEP_main_v53_1, STEP_main_v53_2, STEP_main_v53_3,
      trip_state V j h5, trip_outs V j h4 h5]
    rfl
  · unfold step_main_v53_5
    rw [h5]
    funext i
    show BitVec.ofNat 32 j + 1#32 = BitVec.ofNat 32 (j + 1)
    simp only [BitVec.ofNat_add]

variable (m : (ℓ : Loc nD τ sig) → Buf (Elt F) ℓ) (ρ : Dev nD → PrngReg) (c : Dev nD)

/-- The state before the first trip, of the arguments. -/
abbrev start : State F :=
  init (m ((c.tc : Thread nD τ).loc main_arg0)) (m ((c.tc : Thread nD τ).loc main_arg1))
    (m ((c.tc : Thread nD τ).loc main_arg2))

/-- The state before trip `n`. -/
def states : ℕ → State F
  | 0 => start m c
  | n + 1 => step n (states n)

set_option maxRecDepth 65536 in
set_option maxHeartbeats 1000000 in
/-- The operations before the loop leave the first state. -/
theorem at_entry : At (entryContents preI m c) (start m c) 0 := by
  refine ⟨?_, ?_, ?_⟩
  · unfold held
    simp only [entryContents, afterL_cons, afterL_nil]
    after_reads_simp
    rfl
  · simp only [entryContents, afterL_cons, afterL_nil]; after_reads_simp; rfl
  · simp only [entryContents, afterL_cons, afterL_nil]; after_reads_simp; rfl

/-- Before trip `k` the buffers hold state `k`. -/
theorem at_iter : ∀ k, At (STEP^[k] (entryContents preI m c)) (states m c k) k
  | 0 => at_entry m c
  | k + 1 => by
    rw [Function.iterate_succ_apply']
    exact (at_iter k).next

/-- The reference's result, read off the state after 64 trips. -/
theorem result_eq : out_main_v76 (STEP^[64] (entryContents preI m c)) = Step.R_main_v76 (states m c 64)
    (m ((c.tc : Thread nD τ).loc main_arg0)) (m ((c.tc : Thread nD τ).loc main_arg1))
    (m ((c.tc : Thread nD τ).loc main_arg3)) := by
  rw [outs_eq, (at_iter m c 64).1, iter_main_arg0 m c 64, iter_main_arg1 m c 64, iter_main_arg3 m c 64]

/-- The reference's run: its result is read off the state after 64 trips, and its arguments are unchanged. -/
theorem run : θ_run (defs (F := F)) (onTc (τ := τ) (main (F := F))) ⟨m, fun _ => 0, ρ⟩ fun r => ∀ c : Dev nD,
      r.2.mem ((c.tc : Thread nD τ).loc main_v76) = Step.R_main_v76 (states m c 64)
        (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m c), (h c).2⟩) (Value.run m ρ)

end Cert.RefRun

end
-- ==== Proof.RefVal.lean ====
module

public import proofs.«01_k».proof.Proof.RefRun
public import proofs.«01_k».proof.Proof.Spec

@[expose] public section

set_option maxRecDepth 16384

noncomputable section

/-!
# The reference's trip, at an index
-/

namespace Cert.RefVal

open Idealize.ShloMosaic Cert.ReferenceIdeal Cert.ReferenceIdeal.Gen Cert.ReferenceIdeal.Step

/-- A trip number read as a start index is itself. -/
theorem trip_toInt (j : ℕ) (hj : j < 64) : (BitVec.ofNat 32 j).toInt = (j : ℤ) := by
  rw [BitVec.toInt_eq_toNat_cond, BitVec.toNat_ofNat]
  have : j % 2 ^ 32 = j := Nat.mod_eq_of_lt (by omega)
  rw [this, if_pos (by omega)]

/-- The chunk a dynamic slice at a trip's number takes. -/
theorem slice_at {α : Type} (x : S64x8x16x64x128.Idx → α) (start : Fin 5 → ℤ) (hs : S64x8x16x64x128.Slices (fun _ => 0) S1x8x16x64x128)
    (j : ℕ) (hj : j < 64) (h0 : start 0 = (j : ℤ)) (h1 : ∀ a : Fin 5, a ≠ 0 → start a = 0)
    (b : Fin 8) (h : Fin 16) (t : Fin 64) (d : Fin 128) :
    Host.dynamicSlice S1x8x16x64x128 x start hs (ix5 0 b h t d) = x (ix5 ⟨j, hj⟩ b h t d) := by
  have e0 := Host.clampedStart_of_le (s := S64x8x16x64x128) (t := S1x8x16x64x128) hs.1 start 0 j h0 (by show j + 1 ≤ 64; omega)
  have e1 := Host.clampedStart_of_le (s := S64x8x16x64x128) (t := S1x8x16x64x128) hs.1 start 1 0 (h1 1 (by decide)) (by show 0 + 8 ≤ 8; omega)
  have e2 := Host.clampedStart_of_le (s := S64x8x16x64x128) (t := S1x8x16x64x128) hs.1 start 2 0 (h1 2 (by decide)) (by show 0 + 16 ≤ 16; omega)
  have e3 := Host.clampedStart_of_le (s := S64x8x16x64x128) (t := S1x8x16x64x128) hs.1 start 3 0 (h1 3 (by decide)) (by show 0 + 64 ≤ 64; omega)
  have e4 := Host.clampedStart_of_le (s := S64x8x16x64x128) (t := S1x8x16x64x128) hs.1 start 4 0 (h1 4 (by decide)) (by show 0 + 128 ≤ 128; omega)
  pointwise
  simp only [show Host.clampedStart S64x8x16x64x128 S1x8x16x64x128 hs.1 start 0 = j from e0,
    show Host.clampedStart S64x8x16x64x128 S1x8x16x64x128 hs.1 start 1 = 0 from e1,
    show Host.clampedStart S64x8x16x64x128 S1x8x16x64x128 hs.1 start 2 = 0 from e2,
    show Host.clampedStart S64x8x16x64x128 S1x8x16x64x128 hs.1 start 3 = 0 from e3,
    show Host.clampedStart S64x8x16x64x128 S1x8x16x64x128 hs.1 start 4 = 0 from e4]
  refine congrArg x ?_
  congr 1 <;> apply Fin.ext <;> simp

/-- What a dynamic update at a trip's number leaves: the update in that chunk, the operand elsewhere. -/
theorem update_at {α : Type} (x : S64x8x16x64x128.Idx → α) (u : S1x8x16x64x128.Idx → α) (start : Fin 5 → ℤ)
    (hs : S64x8x16x64x128.Slices (fun _ => 0) S1x8x16x64x128)
    (j : ℕ) (hj : j < 64) (h0 : start 0 = (j : ℤ)) (h1 : ∀ a : Fin 5, a ≠ 0 → start a = 0)
    (n : Fin 64) (b : Fin 8) (h : Fin 16) (t : Fin 64) (d : Fin 128) :
    Host.dynamicUpdateSlice x u start hs (ix5 n b h t d) = if n.val = j then u (ix5 0 b h t d) else x (ix5 n b h t d) := by
  have e0 := Host.clampedStart_of_le (s := S64x8x16x64x128) (t := S1x8x16x64x128) hs.1 start 0 j h0 (by show j + 1 ≤ 64; omega)
  have e1 := Host.clampedStart_of_le (s := S64x8x16x64x128) (t := S1x8x16x64x128) hs.1 start 1 0 (h1 1 (by decide)) (by show 0 + 8 ≤ 8; omega)
  have e2 := Host.clampedStart_of_le (s := S64x8x16x64x128) (t := S1x8x16x64x128) hs.1 start 2 0 (h1 2 (by decide)) (by show 0 + 16 ≤ 16; omega)
  have e3 := Host.clampedStart_of_le (s := S64x8x16x64x128) (t := S1x8x16x64x128) hs.1 start 3 0 (h1 3 (by decide)) (by show 0 + 64 ≤ 64; omega)
  have e4 := Host.clampedStart_of_le (s := S64x8x16x64x128) (t := S1x8x16x64x128) hs.1 start 4 0 (h1 4 (by decide)) (by show 0 + 128 ≤ 128; omega)
  pointwise
  simp only [show Host.clampedStart S64x8x16x64x128 S1x8x16x64x128 hs.1 start 0 = j from e0,
    show Host.clampedStart S64x8x16x64x128 S1x8x16x64x128 hs.1 start 1 = 0 from e1,
    show Host.clampedStart S64x8x16x64x128 S1x8x16x64x128 hs.1 start 2 = 0 from e2,
    show Host.clampedStart S64x8x16x64x128 S1x8x16x64x128 hs.1 start 3 = 0 from e3,
    show Host.clampedStart S64x8x16x64x128 S1x8x16x64x128 hs.1 start 4 = 0 from e4]
  by_cases hn : n.val = j
  · rw [if_pos hn, dif_pos ⟨⟨by omega, by omega⟩, by omega, by omega, by omega, by omega⟩]
    exact congrArg (fun z => u (ix5 z b h t d)) (Subsingleton.elim _ _)
  · rw [if_neg hn, dif_neg (by rintro ⟨⟨ha, hb⟩, _⟩; omega)]

/-- A sum over the window positions, some of them padding, is the sum up to the index. -/
theorem window_sum (f : Fin 64 → EReal) (t : Fin 64) :
    (∑ k : Fin 64, if h : 63 ≤ t.val + k.val then f ⟨t.val + k.val - 63, by omega⟩ else 0) = ∑ i : Fin 64, if i ≤ t then f i else 0 := by
  rw [← Finset.sum_filter, Finset.sum_dite, Finset.sum_const_zero, add_zero]
  refine Finset.sum_bij' (fun k _ => ⟨t.val + k.1.val - 63, by omega⟩)
    (fun i hi => ⟨⟨i.val + 63 - t.val, by have : i ≤ t := (Finset.mem_filter.mp hi).2; have : i.val ≤ t.val := this; omega⟩, ?_⟩) ?_ ?_ ?_ ?_ ?_
  · have : i ≤ t := (Finset.mem_filter.mp hi).2
    have : i.val ≤ t.val := this
    simp only [Finset.mem_filter, Finset.mem_univ, true_and]; omega
  · rintro ⟨k, hk⟩ _
    simp only [Finset.mem_filter, Finset.mem_univ, true_and, Fin.le_def]; omega
  · intro i hi; exact Finset.mem_attach _ _
  · rintro ⟨k, hk⟩ _
    simp only [Finset.mem_filter, Finset.mem_univ, true_and] at hk
    apply Subtype.ext; apply Fin.ext; show t.val + k.val - 63 + 63 - t.val = k.val; omega
  · intro i hi
    have : i ≤ t := (Finset.mem_filter.mp hi).2
    have : i.val ≤ t.val := this
    apply Fin.ext; show t.val + (i.val + 63 - t.val) - 63 = i.val; omega
  · intros; rfl

/-- The host's running sum over a chunk's tokens. -/
theorem cumsum_apply (x : FVec Ideal S8x16x64x128 .f32) (init : FVec Ideal S_ .f32) (h0 : init (Shape.Idx.first h_S_) = 0)
    (b : Fin 8) (h : Fin 16) (t : Fin 64) (d : Fin 128) :
    Host.reduceWindowAdd ![1, 1, 64, 1] ![1, 1, 1, 1] ![0, 0, 63, 0] ![0, 0, 0, 0] x init
      reduceWindows_S8x16x64x128_S8x16x64x128_w1s1p0_0_w1s1p0_0_w64s1p63_0_w1s1p0_0 h_S_ (ix4 b h t d)
      = ∑ i : Fin 64, if i ≤ t then x (ix4 b h i d) else 0 := by
  rw [← window_sum]
  have foldl_sum : ∀ (l : List (Fin (Shape.mk 4 ![1, 1, 64, 1]).numel)) (g : Fin (Shape.mk 4 ![1, 1, 64, 1]).numel → EReal) (a : EReal),
      l.foldl (fun r n => r + g n) a = a + (l.map g).sum := by
    intro l g
    induction l with
    | nil => intro a; simp
    | cons y l ih => intro a; rw [List.foldl_cons, ih, List.map_cons, List.sum_cons, add_assoc]
  show Host.reduceWindow (· + ·) ![1, 1, 64, 1] ![1, 1, 1, 1] ![0, 0, 63, 0] ![0, 0, 0, 0] x (fun _ : (⟨0, ![]⟩ : Shape).Idx => init (Shape.Idx.first h_S_))
    reduceWindows_S8x16x64x128_S8x16x64x128_w1s1p0_0_w1s1p0_0_w64s1p63_0_w1s1p0_0 (by decide) (ix4 b h t d) = _
  unfold Host.reduceWindow
  rw [h0]
  refine (foldl_sum _ _ _).trans ?_
  rw [zero_add, ← List.ofFn_eq_map, List.sum_ofFn]
  refine (Fintype.sum_equiv (Shape.mk 4 ![1, 1, 64, 1]).rowMajor.symm _
    (fun i : (Shape.mk 4 ![1, 1, 64, 1]).Idx => if hin : 63 ≤ t.val + (i 2).val then
      x (ix4 b h ⟨t.val + (i 2).val - 63, by have : (i 2).val < 64 := (i 2).isLt; omega⟩ d) else 0) (fun n => ?_)).trans ?_
  · obtain ⟨i, hi⟩ : ∃ i, (Shape.mk 4 ![1, 1, 64, 1]).rowMajor.symm n = i := ⟨_, rfl⟩
    have z0 : (i 0).val = 0 := by have : (i 0).val < 1 := (i 0).isLt; omega
    have z1 : (i 1).val = 0 := by have : (i 1).val < 1 := (i 1).isLt; omega
    have z3 : (i 3).val = 0 := by have : (i 3).val < 1 := (i 3).isLt; omega
    have z2 : (i 2).val < 64 := (i 2).isLt
    split
    · rename_i hin
      have h2 : 63 ≤ t.val * 1 + (i 2).val := by rw [← hi]; exact (hin 2).1
      rw [dif_pos (by rw [hi]; omega)]
      refine congrArg x ?_
      funext a
      apply Fin.ext
      match a with
      | ⟨0, _⟩ => show b.val * 1 + (((Shape.mk 4 ![1, 1, 64, 1]).rowMajor.symm n) 0).val - 0 = b.val; rw [hi]; omega
      | ⟨1, _⟩ => show h.val * 1 + (((Shape.mk 4 ![1, 1, 64, 1]).rowMajor.symm n) 1).val - 0 = h.val; rw [hi]; omega
      | ⟨2, _⟩ => show t.val * 1 + (((Shape.mk 4 ![1, 1, 64, 1]).rowMajor.symm n) 2).val - 63 = t.val + (((Shape.mk 4 ![1, 1, 64, 1]).rowMajor.symm n) 2).val - 63; omega
      | ⟨3, _⟩ => show d.val * 1 + (((Shape.mk 4 ![1, 1, 64, 1]).rowMajor.symm n) 3).val - 0 = d.val; rw [hi]; omega
    · rename_i hin
      rw [dif_neg]
      intro h2
      rw [hi] at h2
      apply hin
      intro a
      match a with
      | ⟨0, _⟩ =>
        show 0 ≤ b.val * 1 + (((Shape.mk 4 ![1, 1, 64, 1]).rowMajor.symm n) 0).val ∧ b.val * 1 + (((Shape.mk 4 ![1, 1, 64, 1]).rowMajor.symm n) 0).val - 0 < 8
        rw [hi]; omega
      | ⟨1, _⟩ =>
        show 0 ≤ h.val * 1 + (((Shape.mk 4 ![1, 1, 64, 1]).rowMajor.symm n) 1).val ∧ h.val * 1 + (((Shape.mk 4 ![1, 1, 64, 1]).rowMajor.symm n) 1).val - 0 < 16
        rw [hi]; omega
      | ⟨2, _⟩ =>
        show 63 ≤ t.val * 1 + (((Shape.mk 4 ![1, 1, 64, 1]).rowMajor.symm n) 2).val ∧ t.val * 1 + (((Shape.mk 4 ![1, 1, 64, 1]).rowMajor.symm n) 2).val - 63 < 64
        rw [hi]; omega
      | ⟨3, _⟩ =>
        show 0 ≤ d.val * 1 + (((Shape.mk 4 ![1, 1, 64, 1]).rowMajor.symm n) 3).val ∧ d.val * 1 + (((Shape.mk 4 ![1, 1, 64, 1]).rowMajor.symm n) 3).val - 0 < 128
        rw [hi]; omega
  · rw [sum_idx4 (n0 := 1) (n1 := 1) (n2 := 64) (n3 := 1)]
    simp only [Finset.univ_unique, Finset.sum_singleton]
    rfl

/-- The trip's queries. -/
theorem b5_at (j : ℕ) (hj : j < 64) (s : State Ideal) (b : Fin 8) (h : Fin 16) (t : Fin 64) (d : Fin 128) :
    b5 j s (ix4 b h t d) = s.main_v53_0 (ix5 ⟨j, hj⟩ b h t d) := by
  have e : b5 j s (ix4 b h t d) = b4 j s (ix5 0 b h t d) := by pointwise [b5]
  rw [e]
  exact slice_at _ _ _ j hj (trip_toInt j hj) (fun a ha => by
    match a with
    | ⟨0, _⟩ => exact absurd rfl ha
    | ⟨1, _⟩ | ⟨2, _⟩ | ⟨3, _⟩ | ⟨4, _⟩ => rfl) b h t d

/-- The trip's keys. -/
theorem b11_at (j : ℕ) (hj : j < 64) (s : State Ideal) (b : Fin 8) (h : Fin 16) (t : Fin 64) (d : Fin 128) :
    b11 j s (ix4 b h t d) = s.main_v53_1 (ix5 ⟨j, hj⟩ b h t d) := by
  have e : b11 j s (ix4 b h t d) = b10 j s (ix5 0 b h t d) := by pointwise [b11]
  rw [e]
  exact slice_at _ _ _ j hj (trip_toInt j hj) (fun a ha => by
    match a with
    | ⟨0, _⟩ => exact absurd rfl ha
    | ⟨1, _⟩ | ⟨2, _⟩ | ⟨3, _⟩ | ⟨4, _⟩ => rfl) b h t d

/-- The trip's values. -/
theorem b17_at (j : ℕ) (hj : j < 64) (s : State Ideal) (b : Fin 8) (h : Fin 16) (t : Fin 64) (d : Fin 128) :
    b17 j s (ix4 b h t d) = s.main_v53_2 (ix5 ⟨j, hj⟩ b h t d) := by
  have e : b17 j s (ix4 b h t d) = b16 j s (ix5 0 b h t d) := by pointwise [b17]
  rw [e]
  exact slice_at _ _ _ j hj (trip_toInt j hj) (fun a ha => by
    match a with
    | ⟨0, _⟩ => exact absurd rfl ha
    | ⟨1, _⟩ | ⟨2, _⟩ | ⟨3, _⟩ | ⟨4, _⟩ => rfl) b h t d

/-- The trip's log forget gates. -/
theorem b23_at (j : ℕ) (hj : j < 64) (s : State Ideal) (b : Fin 8) (h : Fin 16) (t : Fin 64) (d : Fin 128) :
    b23 j s (ix4 b h t d) = s.main_v53_3 (ix5 ⟨j, hj⟩ b h t d) := by
  have e : b23 j s (ix4 b h t d) = b22 j s (ix5 0 b h t d) := by pointwise [b23]
  rw [e]
  exact slice_at _ _ _ j hj (trip_toInt j hj) (fun a ha => by
    match a with
    | ⟨0, _⟩ => exact absurd rfl ha
    | ⟨1, _⟩ | ⟨2, _⟩ | ⟨3, _⟩ | ⟨4, _⟩ => rfl) b h t d

/-- The reference's causal mask. -/
theorem mask_at (t u : Fin 64) (x y : EReal) : Scalar.select (K_main_v50 (F := Ideal) (ix2 t u)) x y = if u ≤ t then x else y := by
  have e : K_main_v50 (F := Ideal) (ix2 t u) = if u ≤ t then 1#1 else 0#1 := by
    pointwise [K_main_v50, K_main_v49, K_main_c, K_main_call0_v0, K_main_call0_c, K_main_call0_v1, K_main_call0_v2, K_main_call0_v3, K_main_call0_v4, K_main_call0_c_0, K_main_call0_v5]
    revert t u
    decide +kernel
  rw [e]
  by_cases h : u ≤ t
  · rw [if_pos h, if_pos h]; rfl
  · rw [if_neg h, if_neg h]; rfl

/-- The running sum of a trip. -/
theorem b26_at (j : ℕ) (hj : j < 64) (s : State Ideal) (b : Fin 8) (h : Fin 16) (t : Fin 64) (d : Fin 128) :
    b26 j s (ix4 b h t d) = Spec.cum (fun i d => s.main_v53_3 (ix5 ⟨j, hj⟩ b h i d)) t d := by
  refine (cumsum_apply (b23 j s) (b25 j s) ?_ b h t d).trans ?_
  · exact Ideal.ofBits_zero_f32
  · unfold Spec.cum
    simp only [b23_at j hj]

/-- The scores of a trip. -/
theorem b46_at (j : ℕ) (hj : j < 64) (s : State Ideal) (b : Fin 8) (h : Fin 16) (t u : Fin 64) :
    b46 j s (ix4 b h t u) = Spec.score (fun i d => s.main_v53_0 (ix5 ⟨j, hj⟩ b h i d)) (fun i d => s.main_v53_1 (ix5 ⟨j, hj⟩ b h i d))
      (fun i d => s.main_v53_3 (ix5 ⟨j, hj⟩ b h i d)) t u := by
  pointwise [b46, b45, b44, b43, b42, b41, b40, b39, b38, b37, b36, b35, b34, b33, b32, b31, b30, b29, b28, b27]
  unfold Spec.score
  refine Finset.sum_congr rfl fun x _ => ?_
  rw [mask_at, b26_at j hj, b26_at j hj, b5_at j hj, b11_at j hj, show Ideal.ofBits FTy.f32 4286578688#32 = ⊥ by simp [Ideal.ofBits, Ideal.ieee]]

/-- The outputs of a trip. -/
theorem b51_at (j : ℕ) (hj : j < 64) (s : State Ideal) (b : Fin 8) (h : Fin 16) (t : Fin 64) (e : Fin 128) :
    b51 j s (ix4 b h t e) = Spec.out (fun i d => s.main_v53_0 (ix5 ⟨j, hj⟩ b h i d)) (fun i d => s.main_v53_1 (ix5 ⟨j, hj⟩ b h i d))
      (fun i d => s.main_v53_2 (ix5 ⟨j, hj⟩ b h i d)) (fun i d => s.main_v53_3 (ix5 ⟨j, hj⟩ b h i d))
      (fun d e => s.main_v53_6 (ix4 b h d e)) t e := by
  pointwise [b51, b50, b49, b48, b47]
  unfold Spec.out
  simp only [b46_at j hj, b17_at j hj, b5_at j hj, b26_at j hj]

/-- The state a trip leaves. -/
theorem b63_at (j : ℕ) (hj : j < 64) (s : State Ideal) (b : Fin 8) (h : Fin 16) (d e : Fin 128) :
    b63 j s (ix4 b h d e) = Spec.next (fun i d => s.main_v53_1 (ix5 ⟨j, hj⟩ b h i d))
      (fun i d => s.main_v53_2 (ix5 ⟨j, hj⟩ b h i d)) (fun i d => s.main_v53_3 (ix5 ⟨j, hj⟩ b h i d))
      (fun d e => s.main_v53_6 (ix4 b h d e)) d e := by
  pointwise [b63, b62, b61, b60, b59, b58, b57, b56, b55, b54, b53, b52]
  unfold Spec.next
  simp only [b11_at j hj, b17_at j hj, b26_at j hj]

/-- The outputs after a trip: the trip's own chunk is new. -/
theorem b69_at (j : ℕ) (hj : j < 64) (s : State Ideal) (n : Fin 64) (b : Fin 8) (h : Fin 16) (t : Fin 64) (e : Fin 128) :
    b69 j s (ix5 n b h t e) = if n.val = j then b51 j s (ix4 b h t e) else s.main_v53_7 (ix5 n b h t e) := by
  refine (update_at _ _ _ _ j hj (trip_toInt j hj) (fun a ha => by
    match a with
    | ⟨0, _⟩ => exact absurd rfl ha
    | ⟨1, _⟩ | ⟨2, _⟩ | ⟨3, _⟩ | ⟨4, _⟩ => rfl) n b h t e).trans ?_
  have e1 : b64 j s (ix5 0 b h t e) = b51 j s (ix4 b h t e) := by pointwise [b64]
  rw [e1]

/-! ## The trips, from the first -/

/-- A chunked array of the first state, at a chunk number that may be past the end. -/
def chunk (X : (⟨S64x8x16x64x128, .f32⟩ : BufTy).Contents (Elt Ideal)) (b : Fin 8) (h : Fin 16) (n : ℕ) (t : Fin 64) (d : Fin 128) : EReal :=
  if hn : n < 64 then X (ix5 ⟨n, hn⟩ b h t d) else 0

/-- A chunk inside. -/
theorem chunk_eq (X : (⟨S64x8x16x64x128, .f32⟩ : BufTy).Contents (Elt Ideal)) (b : Fin 8) (h : Fin 16) (n : ℕ) (hn : n < 64) :
    chunk X b h n = fun t d => X (ix5 ⟨n, hn⟩ b h t d) := by
  funext t d; exact dif_pos hn

/-- A chunk inside, at an index. -/
theorem chunk_at (X : (⟨S64x8x16x64x128, .f32⟩ : BufTy).Contents (Elt Ideal)) (b : Fin 8) (h : Fin 16) (n : ℕ) (hn : n < 64)
    (t : Fin 64) (d : Fin 128) : chunk X b h n t d = X (ix5 ⟨n, hn⟩ b h t d) := dif_pos hn

section
variable (s : ℕ → State Ideal) (hs : ∀ n, s (n + 1) = step n (s n)) (h6 : ∀ b h d e, (s 0).main_v53_6 (ix4 b h d e) = 0)
include hs

/-- The trips leave the chunked arguments alone. -/
theorem kept (n : ℕ) : (s n).main_v53_0 = (s 0).main_v53_0 ∧ (s n).main_v53_1 = (s 0).main_v53_1
    ∧ (s n).main_v53_2 = (s 0).main_v53_2 ∧ (s n).main_v53_3 = (s 0).main_v53_3 := by
  induction n with
  | zero => exact ⟨rfl, rfl, rfl, rfl⟩
  | succ n ih => rw [hs]; exact ih

include h6

/-- The carried state before trip `n`. -/
theorem state_at (n : ℕ) (hn : n ≤ 64) (b : Fin 8) (h : Fin 16) (d e : Fin 128) : (s n).main_v53_6 (ix4 b h d e)
    = Spec.states (chunk (s 0).main_v53_1 b h) (chunk (s 0).main_v53_2 b h) (chunk (s 0).main_v53_3 b h) n d e := by
  induction n generalizing d e with
  | zero => exact h6 b h d e
  | succ n ih =>
    have hk := kept s hs n
    rw [hs, step_main_v53_6, b63_at n (by omega), hk.2.1, hk.2.2.1, hk.2.2.2]
    have e1 : (fun d e => (s n).main_v53_6 (ix4 b h d e)) = _ := funext fun d => funext fun e => ih (by omega) d e
    rw [e1]
    rw [Spec.states_succ]
    rw [chunk_eq _ _ _ n (by omega), chunk_eq _ _ _ n (by omega), chunk_eq _ _ _ n (by omega)]

/-- The outputs before trip `n`, at a chunk a trip has reached. -/
theorem outs_at (n : ℕ) (hn : n ≤ 64) (i : Fin 64) (hi : i.val < n) (b : Fin 8) (h : Fin 16) (t : Fin 64) (e : Fin 128) :
    (s n).main_v53_7 (ix5 i b h t e)
    = Spec.out (chunk (s 0).main_v53_0 b h i) (chunk (s 0).main_v53_1 b h i) (chunk (s 0).main_v53_2 b h i) (chunk (s 0).main_v53_3 b h i)
        (Spec.states (chunk (s 0).main_v53_1 b h) (chunk (s 0).main_v53_2 b h) (chunk (s 0).main_v53_3 b h) i) t e := by
  induction n with
  | zero => omega
  | succ n ih =>
    rw [hs, step_main_v53_7, b69_at n (by omega)]
    by_cases hin : i.val = n
    · have hk := kept s hs n
      rw [if_pos hin, b51_at n (by omega), hk.1, hk.2.1, hk.2.2.1, hk.2.2.2]
      have e1 : (fun d e => (s n).main_v53_6 (ix4 b h d e)) = _ := funext fun d => funext fun e => state_at s hs h6 n (by omega) b h d e
      rw [e1, hin]
      rw [chunk_eq _ _ _ n (by omega), chunk_eq _ _ _ n (by omega), chunk_eq _ _ _ n (by omega), chunk_eq _ _ _ n (by omega)]
    · rw [if_neg hin]
      exact ih (by omega) (by omega)

end

/-! ## The arguments' chunks -/

/-- A token's product with a column of the weights. -/
def proj (a0 : (⟨S8x4096x2048, .bf16⟩ : BufTy).Contents (Elt Ideal)) (a1 : (⟨S2048x8192, .f32⟩ : BufTy).Contents (Elt Ideal))
    (b : Fin 8) (t : Fin 4096) (c : Fin 8192) : EReal := ∑ x : Fin 2048, a0 (ix3 b t x) * a1 (ix2 x c)

section
variable (a0 : (⟨S8x4096x2048, .bf16⟩ : BufTy).Contents (Elt Ideal)) (a1 : (⟨S2048x8192, .f32⟩ : BufTy).Contents (Elt Ideal))
    (a2 : (⟨S2048, .f32⟩ : BufTy).Contents (Elt Ideal)) (a3 : (⟨S128, .f32⟩ : BufTy).Contents (Elt Ideal)) (n : Fin 64) (b : Fin 8) (h : Fin 16) (t : Fin 64) (d : Fin 128)

/-- The queries' chunks. -/
theorem A42_at : A_main_v42 a0 a1 a2 (ix5 n b h t d) = proj a0 a1 b ⟨n.val * 64 + t, by omega⟩ ⟨h.val * 128 + d, by omega⟩ := by
  pointwise [A_main_v42, A_main_v41, A_main_v2, A_main_v1, A_main_v0]
  rfl

/-- The values' chunks. -/
theorem A46_at : A_main_v46 a0 a1 a2 (ix5 n b h t d) = proj a0 a1 b ⟨n.val * 64 + t, by omega⟩ ⟨4096 + (h.val * 128 + d), by omega⟩ := by
  pointwise [A_main_v46, A_main_v45, A_main_v4, A_main_v1, A_main_v0]
  rfl

/-- The log forget gates' chunks. -/
theorem A48_at : A_main_v48 a0 a1 a2 (ix5 n b h t d) = A_main_v38 a0 a1 a2 (ix3 b ⟨n.val * 64 + t, by omega⟩ ⟨h.val * 128 + d, by omega⟩) := by
  pointwise [A_main_v48, A_main_v47]

/-- The log forget gates. -/
theorem A38_at (t : Fin 4096) (c : Fin 2048) : A_main_v38 a0 a1 a2 (ix3 b t c) = Spec.gate (a2 (ix1 c)) (proj a0 a1 b t ⟨2048 + c.val, by omega⟩) := by
  have e : A_main_v3 a0 a1 a2 (ix3 b t c) = proj a0 a1 b t ⟨2048 + c.val, by omega⟩ := by
    pointwise [A_main_v3, A_main_v1, A_main_v0]
    rfl
  pointwise [A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v13, A_main_v12, A_main_v10, A_main_v8, A_main_v7, A_main_v6, A_main_v5, K_main_v9, K_main_v11, K_main_v14, K_main_cst]
  simp only [ne_eq, not_true_eq_false, if_false]
  rw [e]
  rfl

/-- The keys' chunks. -/
theorem A44_at : A_main_v44 a0 a1 a2 (ix5 n b h t d) = -(Ideal.exp (A_main_v48 a0 a1 a2 (ix5 n b h t d)) - 1) := by
  rw [A48_at]
  pointwise [A_main_v44, A_main_v43, A_main_v40, A_main_v39]

/-- The reference's result. -/
theorem R_at (s : State Ideal) (t : Fin 4096) (e : Fin 2048) : R_main_v76 s a0 a1 a3 (ix3 b t e) =
   Spec.fin (fun x => s.main_v53_7 (ix5 ⟨t.val / 64, by omega⟩ b ⟨e.val / 128, by omega⟩ ⟨t.val % 64, by omega⟩ x)) (a3 (ix1 ⟨e.val % 128, by omega⟩))
     (proj a0 a1 b t ⟨6144 + e, by omega⟩) ⟨e.val % 128, by omega⟩ := by
  unfold Spec.fin proj
  pointwise [R_main_v76]
  refine congrArg₂ (· * ·) rfl (congrArg₂ (· * ·) rfl ?_)
  rfl

/-- A part of the projection (0 the queries, 1 the gate logits, 2 the values) of a chunk of a head. -/
def part (g : Fin 4) (n : ℕ) (t : Fin 64) (d : Fin 128) : EReal :=
  if hn : n < 64 then proj a0 a1 b ⟨n * 64 + t.val, by omega⟩ ⟨g.val * 2048 + (h.val * 128 + d.val), by omega⟩ else 0

/-- The log forget gates of a chunk of a head. -/
def lf (n : ℕ) (t : Fin 64) (d : Fin 128) : EReal := Spec.gate (a2 (ix1 ⟨h.val * 128 + d.val, by omega⟩)) (part a0 a1 b h 1 n t d)

/-- The keys of a chunk of a head. -/
def keys (n : ℕ) (t : Fin 64) (d : Fin 128) : EReal := -(Ideal.exp (lf a0 a1 a2 b h n t d) - 1)

/-- The states of a head. -/
def st (n : ℕ) : Fin 128 → Fin 128 → EReal := Spec.states (keys a0 a1 a2 b h) (part a0 a1 b h 2) (lf a0 a1 a2 b h) n

/-- The outputs of a chunk of a head. -/
def o (n : ℕ) (t : Fin 64) (e : Fin 128) : EReal :=
  Spec.out (part a0 a1 b h 0 n) (keys a0 a1 a2 b h n) (part a0 a1 b h 2 n) (lf a0 a1 a2 b h n) (st a0 a1 a2 b h n) t e

/-- The queries of a chunk. -/
theorem chunk42 (n : ℕ) (hn : n < 64) : chunk (A_main_v42 a0 a1 a2) b h n = part a0 a1 b h 0 n := by
  funext t d
  rw [chunk_at _ _ _ n hn, part, dif_pos hn, A42_at]
  refine congrArg (proj a0 a1 b _) (Fin.ext ?_)
  show h.val * 128 + d.val = 0 * 2048 + (h.val * 128 + d.val)
  omega

/-- The values of a chunk. -/
theorem chunk46 (n : ℕ) (hn : n < 64) : chunk (A_main_v46 a0 a1 a2) b h n = part a0 a1 b h 2 n := by
  funext t d
  rw [chunk_at _ _ _ n hn, part, dif_pos hn, A46_at]
  refine congrArg (proj a0 a1 b _) (Fin.ext ?_)
  show 4096 + (h.val * 128 + d.val) = 2 * 2048 + (h.val * 128 + d.val)
  omega

/-- The log forget gates of a chunk. -/
theorem chunk48 (n : ℕ) (hn : n < 64) : chunk (A_main_v48 a0 a1 a2) b h n = lf a0 a1 a2 b h n := by
  funext t d
  rw [chunk_at _ _ _ n hn, lf, part, dif_pos hn, A48_at, A38_at]
  refine congrArg (fun c => Spec.gate _ (proj a0 a1 b _ c)) (Fin.ext ?_)
  show 2048 + (h.val * 128 + d.val) = 1 * 2048 + (h.val * 128 + d.val)
  omega

/-- The keys of a chunk. -/
theorem chunk44 (n : ℕ) (hn : n < 64) : chunk (A_main_v44 a0 a1 a2) b h n = keys a0 a1 a2 b h n := by
  funext t d
  have := congrFun (congrFun (chunk48 a0 a1 a2 b h n hn) t) d
  rw [chunk_at _ _ _ n hn] at this ⊢
  rw [A44_at, keys]
  exact congrArg (fun z => -(Ideal.exp z - 1)) this

/-- The reference's result, from its first state. -/
theorem result_at (s : ℕ → State Ideal) (hs : ∀ n, s (n + 1) = step n (s n)) (h0 : s 0 = init a0 a1 a2)
    (t : Fin 4096) (e : Fin 2048) : R_main_v76 (s 64) a0 a1 a3 (ix3 b t e) =
   Spec.fin (o a0 a1 a2 b ⟨e.val / 128, by omega⟩ (t.val / 64) ⟨t.val % 64, by omega⟩) (a3 (ix1 ⟨e.val % 128, by omega⟩))
     (part a0 a1 b ⟨e.val / 128, by omega⟩ 3 (t.val / 64) ⟨t.val % 64, by omega⟩ ⟨e.val % 128, by omega⟩) ⟨e.val % 128, by omega⟩ := by
  have h6 : ∀ b h d e, (s 0).main_v53_6 (ix4 b h d e) = 0 := by
    intro b h d e
    rw [h0]
    show K_main_v51 (F := Ideal) (ix4 b h d e) = 0
    pointwise [K_main_v51, K_main_cst_0]
  have ho : (fun x => (s 64).main_v53_7 (ix5 ⟨t.val / 64, by omega⟩ b ⟨e.val / 128, by omega⟩ ⟨t.val % 64, by omega⟩ x))
      = o a0 a1 a2 b ⟨e.val / 128, by omega⟩ (t.val / 64) ⟨t.val % 64, by omega⟩ := by
    funext x
    rw [outs_at s hs h6 64 le_rfl ⟨t.val / 64, by omega⟩ (by show t.val / 64 < 64; omega), h0]
    show Spec.out (chunk (A_main_v42 a0 a1 a2) b _ (t.val / 64)) (chunk (A_main_v44 a0 a1 a2) b _ (t.val / 64)) (chunk (A_main_v46 a0 a1 a2) b _ (t.val / 64)) (chunk (A_main_v48 a0 a1 a2) b _ (t.val / 64))
      (Spec.states (chunk (A_main_v44 a0 a1 a2) b _) (chunk (A_main_v46 a0 a1 a2) b _) (chunk (A_main_v48 a0 a1 a2) b _) (t.val / 64)) _ x = _
    rw [chunk42 _ _ _ _ _ _ (by omega), chunk44 _ _ _ _ _ _ (by omega), chunk46 _ _ _ _ _ _ (by omega), chunk48 _ _ _ _ _ _ (by omega),
      Spec.states_congr (t.val / 64) (fun i hi => chunk44 a0 a1 a2 b _ i (by omega)) (fun i hi => chunk46 a0 a1 a2 b _ i (by omega)) (fun i hi => chunk48 a0 a1 a2 b _ i (by omega))]
    rfl
  rw [R_at, ho, part, dif_pos (by omega)]
  have e1 : (⟨t.val / 64 * 64 + t.val % 64, by omega⟩ : Fin 4096) = t := Fin.ext (by show t.val / 64 * 64 + t.val % 64 = t.val; omega)
  have e2 : (⟨3 * 2048 + (e.val / 128 * 128 + e.val % 128), by omega⟩ : Fin 8192) = ⟨6144 + e.val, by omega⟩ :=
    Fin.ext (by show 3 * 2048 + (e.val / 128 * 128 + e.val % 128) = 6144 + e.val; omega)
  exact congrArg₂ (fun t c => Spec.fin _ _ (proj a0 a1 b t c) _) e1.symm e2.symm

end

end Cert.RefVal

end
-- ==== Proof.Loads.lean ====
module

public import proofs.«01_k».proof.Proof.Fold
public import proofs.«01_k».proof.Proof.BlockVal
public import proofs.«01_k».proof.Proof.RefVal

@[expose] public section

set_option maxRecDepth 16384

noncomputable section

/-!
# What an instance loads and computes, at an index
-/

namespace Cert.Loads

open Idealize.ShloMosaic Idealize.ShloMosaic.TcCoe Cert.KernelIdeal Cert.KernelIdeal.Gen Cert.Pieces Cert.Block Cert.Fold

/-- A load of a whole buffer's contents is a read of those contents. -/
theorem load_eq {s : Shape} {e : EltTy} (a : Memref sig .tc .vmem s e) (ha : a.IsWhole) (x : s.Idx → Elt Ideal e) (r : Rect s) :
    View.readAt (Elt Ideal) a.view r.toLoadRect (ha.unread x) = View.ld (Val := Elt Ideal) x r := by
  rw [View.readAt_eq_ld, ha.read_unread]

section
variable (w : Memref sig .tc .vmem S4x2048x512 .bf16) (hw : w.IsWhole) (x3 : Vec Ideal S4x2048x512 .bf16)
  (a : Memref sig .tc .vmem S8x64x2048 .bf16) (ha : a.IsWhole) (x : Vec Ideal S8x64x2048 .bf16)

/-- A product of a chunk's tokens and some columns. -/
theorem projPiece_at (h : Vec Ideal S8x64x2048 .bf16) (w : Vec Ideal S1x2048x256 .bf16) (r : Fin 512) (k : Fin 256) :
    projPiece h w (ix2 r k) = ∑ d : Fin 2048, h (ix3 ⟨r.val / 64, by omega⟩ ⟨r.val % 64, by omega⟩ d) * w (ix3 0 d k) := by
  pointwise [projPiece]

/-- A product of a chunk's tokens and a head's columns. -/
theorem projInit_at (h : Vec Ideal S8x64x2048 .bf16) (w : Vec Ideal S1x2048x512 .bf16) (r : Fin 512) (k : Fin 512) :
    projInit h w (ix2 r k) = ∑ d : Fin 2048, h (ix3 ⟨r.val / 64, by omega⟩ ⟨r.val % 64, by omega⟩ d) * w (ix3 0 d k) := by
  pointwise [projInit]

/-- Half a head's columns of a chunk's projection. -/
theorem prH_at (g : ℕ) (r : Fin 512) (k : Fin 256) : prH w hw x3 a ha x g (ix2 r k)
    = ∑ d : Fin 2048, x (ix3 ⟨r.val / 64, by omega⟩ ⟨r.val % 64, by omega⟩ d) * x3 (ix3 ⟨g / 2 % 4, by omega⟩ d ⟨256 * (g % 2) + k.val, by omega⟩) := by
  unfold prH
  rw [load_eq, load_eq]
  refine (projPiece_at _ _ r k).trans (Finset.sum_congr rfl fun d _ => congrArg₂ (· * ·) ?_ ?_)
  · exact congrArg x (by funext i; fin_cases i <;> exact Fin.ext (by simp [rH, Rect.unit]))
  · exact congrArg x3 (by funext i; fin_cases i <;> exact Fin.ext (by simp [rWh, Rect.unit]))

/-- A head's columns of the first chunk's projection. -/
theorem prI_at (e : ℕ) (r : Fin 512) (k : Fin 512) : prI w hw x3 a ha x e (ix2 r k)
    = ∑ d : Fin 2048, x (ix3 ⟨r.val / 64, by omega⟩ ⟨r.val % 64, by omega⟩ d) * x3 (ix3 ⟨e % 4, by omega⟩ d k) := by
  unfold prI
  rw [load_eq, load_eq]
  refine (projInit_at _ _ r k).trans (Finset.sum_congr rfl fun d _ => congrArg₂ (· * ·) ?_ ?_)
  · exact congrArg x (by funext i; fin_cases i <;> exact Fin.ext (by simp [rH, Rect.unit]))
  · exact congrArg x3 (by funext i; fin_cases i <;> exact Fin.ext (by simp [rW, Rect.unit]))

/-- What an instance reads of a chunk's projection, once its halves are stored. -/
theorem half_at (base : List (View.Piece (Elt Ideal) S512x2048 .f32)) (n : ℕ) (hn : n < 32) (j : Fin 4) (i : Fin 64) (k : Fin 128) :
    View.ld (View.canon (prSeq (prH w hw x3 a ha x) base 8)) (rP n j) (ix2 i k)
      = ∑ d : Fin 2048, x (ix3 ⟨n % 8, by omega⟩ i d) * x3 (ix3 ⟨n / 8, by omega⟩ d ⟨128 * j.val + k.val, by omega⟩) := by
  refine (ld_prSeq _ base n hn j (ix2 i k)).trans ?_
  have e : inHalf n j (ix2 i k) = ix2 (⟨64 * (n % 8) + i.val, by omega⟩ : Fin 512) (⟨128 * (j.val % 2) + k.val, by omega⟩ : Fin 256) := by
    funext i; fin_cases i <;> rfl
  rw [e, prH_at]
  refine Finset.sum_congr rfl fun d _ => congrArg₂ (· * ·) (congrArg x ?_) (congrArg x3 ?_)
  · exact congrArg₂ (fun p q => ix3 p q d) (Fin.ext (by show (64 * (n % 8) + i.val) / 64 = n % 8; omega)) (Fin.ext (by show (64 * (n % 8) + i.val) % 64 = i.val; omega))
  · exact congrArg₂ (fun p q => ix3 p d q) (Fin.ext (by show (2 * (n / 8) + j.val / 2) / 2 % 4 = n / 8; omega))
      (Fin.ext (by show 256 * ((2 * (n / 8) + j.val / 2) % 2) + (128 * (j.val % 2) + k.val) = 128 * j.val + k.val; omega))

/-- What an instance reads of the first chunk's projection, once it is stored. -/
theorem head_at (n : ℕ) (hn : n < 32) (j : Fin 4) (i : Fin 64) (k : Fin 128) :
    View.ld (View.canon (piSeq (prI w hw x3 a ha x) 4)) (rP n j) (ix2 i k)
      = ∑ d : Fin 2048, x (ix3 ⟨n % 8, by omega⟩ i d) * x3 (ix3 ⟨n / 8, by omega⟩ d ⟨128 * j.val + k.val, by omega⟩) := by
  refine (ld_piSeq _ n hn j (ix2 i k)).trans ?_
  have e : inHead n j (ix2 i k) = ix2 (⟨64 * (n % 8) + i.val, by omega⟩ : Fin 512) (⟨128 * j.val + k.val, by omega⟩ : Fin 512) := by
    funext i; fin_cases i <;> rfl
  rw [e, prI_at]
  refine Finset.sum_congr rfl fun d _ => congrArg₂ (· * ·) (congrArg x ?_) (congrArg x3 ?_)
  · exact congrArg₂ (fun p q => ix3 p q d) (Fin.ext (by show (64 * (n % 8) + i.val) / 64 = n % 8; omega)) (Fin.ext (by show (64 * (n % 8) + i.val) % 64 = i.val; omega))
  · exact congrArg (fun p => ix3 p d _) (Fin.ext (by show n / 8 % 4 = n / 8; omega))
end

/-- A head's row of constants, as loaded. -/
theorem ldT_at (a : Memref sig .tc .vmem S4x1x128 .f32) (ha : a.IsWhole) (x : Vec Ideal S4x1x128 .f32) (n : ℕ) (hn : n < 32) (d : Fin 128) :
    ldT a ha x n (ix3 0 0 d) = x (ix3 ⟨n / 8, by omega⟩ 0 d) := by
  unfold ldT
  rw [load_eq]
  have : n / 8 < 4 := by omega
  exact congrArg x (by funext i; fin_cases i <;> exact Fin.ext (by simp [rT, Rect.unit]; try omega))

/-- A mask, as loaded. -/
theorem ldM_at (a : Memref sig .tc .vmem S7x64x64 .f32) (ha : a.IsWhole) (x : Vec Ideal S7x64x64 .f32) (j : Fin 7) (t u : Fin 64) :
    ldM a ha x j (ix3 0 t u) = x (ix3 j t u) := by
  unfold ldM
  rw [load_eq]
  exact congrArg x (by funext i; fin_cases i <;> exact Fin.ext (by simp [rM, Rect.unit]))

/-- The norm's weights, as loaded. -/
theorem ldG_at (a : Memref sig .tc .vmem S1x128 .f32) (ha : a.IsWhole) (x : Vec Ideal S1x128 .f32) (d : Fin 128) :
    ldG a ha x (ix2 0 d) = x (ix2 0 d) := by
  unfold ldG
  rw [load_eq]
  exact congrArg x (by funext i; fin_cases i <;> exact Fin.ext (by simp [rG, Rect.unit]))

/-- The initial state is zero. -/
theorem init_at (k : ℕ) (d e : Fin 128) : View.ld (Val := Elt Ideal) (e' := .f32) (stInit (F := Ideal)) (rS k) (ix3 0 d e) = 0 := by
  have e : (rS k).idx (ix3 0 d e) = ix3 (⟨k % 32, by omega⟩ : Fin 32) d e := by
    funext i; fin_cases i <;> exact Fin.ext (by simp [rS, Rect.unit])
  refine (congrArg (stInit (F := Ideal)) e).trans ?_
  pointwise [stInit, kst]

end Cert.Loads

end
-- ==== Proof.Inst.lean ====
module

public import proofs.«01_k».proof.Proof.Loads

@[expose] public section

set_option maxRecDepth 16384

noncomputable section

/-!
# One instance of a chunk, against the reference's chunk of its head
-/

namespace Cert.Inst

open Idealize.ShloMosaic Idealize.ShloMosaic.TcCoe Cert.KernelIdeal Cert.KernelIdeal.Gen Cert.Pieces Cert.Block

/-- A head's column of the lower bounds. -/
def col (h : Fin 16) (d : Fin 128) : Fin 2048 := ⟨h.val * 128 + d.val, by omega⟩

variable (a0 : (⟨S8x4096x2048, .bf16⟩ : BufTy).Contents (Elt Ideal)) (a1 : (⟨S2048x8192, .f32⟩ : BufTy).Contents (Elt Ideal))
  (a2 : (⟨S2048, .f32⟩ : BufTy).Contents (Elt Ideal)) (a3 : (⟨S128, .f32⟩ : BufTy).Contents (Elt Ideal))
  (hlb : ∀ i, ∃ r : ℝ, 0 < r ∧ r < 1 ∧ a2 (ix1 i) = (r : EReal)) (b : Fin 8) (h : Fin 16)
  (la l1 : ℕ → Vec Ideal S1x1x128 .f32) (mk : Fin 7 → Vec Ideal S1x64x64 .f32) (hm : BlockVal.Masks mk) (gn : Vec Ideal S1x128 .f32)
  (p : ℕ → Fin 4 → Vec Ideal S64x128 .f32) (n k : ℕ) (s : Vec Ideal S1x128x128 .f32)
  (hla : ∀ d : Fin 128, la n (ix3 0 0 d) = Ideal.log (a2 (ix1 (col h d))))
  (hl1 : ∀ d : Fin 128, l1 n (ix3 0 0 d) = Ideal.log1p (-(show EReal from a2 (ix1 (col h d)))))
  (hp : ∀ j i x, p n j (ix2 i x) = RefVal.part a0 a1 b h j k i x)
  (hs : ∀ e d, s (ix3 0 e d) = RefVal.st a0 a1 a2 b h k d e)
include hlb hla hl1 hp hs

/-- The state an instance leaves is the reference's next state. -/
theorem nw_at (e d : Fin 128) : nw la l1 p n s (ix3 0 e d) = RefVal.st a0 a1 a2 b h (k + 1) d e := by
  choose r r0 r1 hr using hlb
  refine (BlockVal.hgSt_at (la n) (l1 n) (p n 1) (p n 2) s (fun d => r (col h d)) (fun _ => r0 _) (fun _ => r1 _)
    (fun d => (hla d).trans (congrArg Ideal.log (hr _))) (fun d => (hl1 d).trans (congrArg (fun y : EReal => Ideal.log1p (-y)) (hr _))) e d).trans ?_
  have e1 : BlockVal.lfz (p n 1) (fun d => r (col h d)) = RefVal.lf a0 a1 a2 b h k := by
    funext t d
    exact congrArg₂ Spec.gate (hr _).symm (hp 1 t d)
  have e2 : BlockVal.keyz (p n 1) (fun d => r (col h d)) = RefVal.keys a0 a1 a2 b h k := by
    funext t d
    exact congrArg (fun f : Fin 64 → Fin 128 → EReal => -(Ideal.exp (f t d) - 1)) e1
  have e3 : (fun t e => p n 2 (ix2 t e)) = RefVal.part a0 a1 b h 2 k := by
    funext t e; exact hp 2 t e
  have e4 : (fun d e => s (ix3 0 e d)) = RefVal.st a0 a1 a2 b h k := by
    funext d e; exact hs e d
  rw [e1, e2, e3, e4]
  rfl

include hm in
/-- The tile an instance stores is the reference's chunk of its head, normalised and gated. -/
theorem ou_at (hg : ∀ d, gn (ix2 0 d) = a3 (ix1 d)) (i : Fin 64) (x : Fin 128) : ou la l1 mk gn p n s (ix3 0 i x)
    = Spec.fin (RefVal.o a0 a1 a2 b h k i) (a3 (ix1 x)) (RefVal.part a0 a1 b h 3 k i x) x := by
  choose r r0 r1 hr using hlb
  refine (BlockVal.hgOut_at (la n) (l1 n) mk hm gn (p n 0) (p n 1) (p n 2) (p n 3) s (fun d => r (col h d)) (fun _ => r0 _) (fun _ => r1 _)
    (fun d => (hla d).trans (congrArg Ideal.log (hr _))) (fun d => (hl1 d).trans (congrArg (fun y : EReal => Ideal.log1p (-y)) (hr _))) i x).trans ?_
  have e1 : BlockVal.lfz (p n 1) (fun d => r (col h d)) = RefVal.lf a0 a1 a2 b h k := by
    funext t d
    exact congrArg₂ Spec.gate (hr _).symm (hp 1 t d)
  have e2 : BlockVal.keyz (p n 1) (fun d => r (col h d)) = RefVal.keys a0 a1 a2 b h k := by
    funext t d
    exact congrArg (fun f : Fin 64 → Fin 128 → EReal => -(Ideal.exp (f t d) - 1)) e1
  have e3 : (fun t e => p n 2 (ix2 t e)) = RefVal.part a0 a1 b h 2 k := by
    funext t e; exact hp 2 t e
  have e4 : (fun d e => s (ix3 0 e d)) = RefVal.st a0 a1 a2 b h k := by
    funext d e; exact hs e d
  have e5 : (fun t d => p n 0 (ix2 t d)) = RefVal.part a0 a1 b h 0 k := by
    funext t d; exact hp 0 t d
  rw [e1, e2, e3, e4, e5, hg, hp 3 i x]
  rfl

end Cert.Inst

end
-- ==== Proof.Chunks.lean ====
module

public import proofs.«01_k».proof.Proof.Inst

@[expose] public section

set_option maxRecDepth 16384

noncomputable section

/-!
# What a grid point leaves, against the reference's chunks of the point's heads

A point works on heads `4 * g` to `4 * g + 3` and on two chunks, `K` and `K + 1`.
-/

namespace Cert.Chunks

open Idealize.ShloMosaic Idealize.ShloMosaic.TcCoe Cert.KernelIdeal Cert.KernelIdeal.Gen Cert.Pieces Cert.Block

/-- A block holds chunk `K`'s tokens. -/
def TokOk (a0 : (⟨S8x4096x2048, .bf16⟩ : BufTy).Contents (Elt Ideal)) (K : ℕ) (hK : K < 64) (x : Vec Ideal S8x64x2048 .bf16) : Prop :=
  ∀ (b : Fin 8) (i : Fin 64) (d : Fin 2048), x (ix3 b i d) = a0 (ix3 b ⟨K * 64 + i.val, by omega⟩ d)

/-- A block holds four heads' columns of the weights. -/
def WtOk (a1 : (⟨S2048x8192, .f32⟩ : BufTy).Contents (Elt Ideal)) (g : ℕ) (hg : g < 4) (x3 : Vec Ideal S4x2048x512 .bf16) : Prop :=
  ∀ (e : Fin 4) (d : Fin 2048) (j : Fin 512), x3 (ix3 e d j) = a1 (ix2 d ⟨j.val / 128 * 2048 + ((4 * g + e.val) * 128 + j.val % 128), by omega⟩)

/-- A block holds the logs of four heads' lower bounds. -/
def LogOk (a2 : (⟨S2048, .f32⟩ : BufTy).Contents (Elt Ideal)) (g : ℕ) (hg : g < 4) (x4 : Vec Ideal S4x1x128 .f32) : Prop :=
  ∀ (e : Fin 4) (d : Fin 128), x4 (ix3 e 0 d) = Ideal.log (a2 (ix1 (Inst.col ⟨4 * g + e.val, by omega⟩ d)))

/-- A block holds the logs of four heads' lower bounds' complements. -/
def Log1Ok (a2 : (⟨S2048, .f32⟩ : BufTy).Contents (Elt Ideal)) (g : ℕ) (hg : g < 4) (x5 : Vec Ideal S4x1x128 .f32) : Prop :=
  ∀ (e : Fin 4) (d : Fin 128), x5 (ix3 e 0 d) = Ideal.log1p (-(show EReal from a2 (ix1 (Inst.col ⟨4 * g + e.val, by omega⟩ d))))

/-- A block holds the masks. -/
def MaskOk (x6 : Vec Ideal S7x64x64 .f32) : Prop :=
  ∀ (j : Fin 7) (t u : Fin 64), Ideal.ofBits .f32 1056964608#32 < x6 (ix3 j t u) ↔ BlockVal.isOn j t u = true

/-- A block holds the norm's weights. -/
def NormOk (a3 : (⟨S128, .f32⟩ : BufTy).Contents (Elt Ideal)) (x7 : Vec Ideal S1x128 .f32) : Prop := ∀ d : Fin 128, x7 (ix2 0 d) = a3 (ix1 d)

variable (a0 : (⟨S8x4096x2048, .bf16⟩ : BufTy).Contents (Elt Ideal)) (a1 : (⟨S2048x8192, .f32⟩ : BufTy).Contents (Elt Ideal))
  (a2 : (⟨S2048, .f32⟩ : BufTy).Contents (Elt Ideal)) (a3 : (⟨S128, .f32⟩ : BufTy).Contents (Elt Ideal))
  (g : ℕ) (hg : g < 4) (K : ℕ)

/-- An instance's head. -/
def head (n : ℕ) (hn : n < 32) : Fin 16 := ⟨4 * g + n / 8, by omega⟩

/-- An instance's batch row. -/
def row (n : ℕ) : Fin 8 := ⟨n % 8, Nat.mod_lt _ (by decide)⟩

/-- Every state slot holds its head's state before chunk `K`. -/
def StOk (s : ℕ → Vec Ideal S1x128x128 .f32) : Prop :=
  ∀ (n : ℕ) (hn : n < 32) (e d : Fin 128), s n (ix3 0 e d) = RefVal.st a0 a1 a2 (row n) (head g hg n hn) K d e

/-- Every instance's columns are its head's projections of chunk `K`. -/
def PrOk (p : ℕ → Fin 4 → Vec Ideal S64x128 .f32) : Prop :=
  ∀ (n : ℕ) (hn : n < 32) (j : Fin 4) (i : Fin 64) (x : Fin 128), p n j (ix2 i x) = RefVal.part a0 a1 (row n) (head g hg n hn) j K i x

/-- Every instance's tile is its head's output at chunk `K`. -/
def OutOk (u : ℕ → Vec Ideal S1x64x128 .bf16) : Prop :=
  ∀ (n : ℕ) (hn : n < 32) (i : Fin 64) (x : Fin 128), u n (ix3 0 i x)
    = Spec.fin (RefVal.o a0 a1 a2 (row n) (head g hg n hn) K i) (a3 (ix1 x)) (RefVal.part a0 a1 (row n) (head g hg n hn) 3 K i x) x

/-- The constants are the logs of the heads' lower bounds. -/
def LaOk (la : ℕ → Vec Ideal S1x1x128 .f32) : Prop :=
  ∀ (n : ℕ) (hn : n < 32) (d : Fin 128), la n (ix3 0 0 d) = Ideal.log (a2 (ix1 (Inst.col (head g hg n hn) d)))

/-- The constants are the logs of the heads' lower bounds' complements. -/
def L1Ok (l1 : ℕ → Vec Ideal S1x1x128 .f32) : Prop :=
  ∀ (n : ℕ) (hn : n < 32) (d : Fin 128), l1 n (ix3 0 0 d) = Ideal.log1p (-(show EReal from a2 (ix1 (Inst.col (head g hg n hn) d))))

section
variable (hlb : ∀ i, ∃ r : ℝ, 0 < r ∧ r < 1 ∧ a2 (ix1 i) = (r : EReal))
  (v : View sig .tc .vmem S32x128x128 .f32) (la l1 : ℕ → Vec Ideal S1x1x128 .f32) (mk : Fin 7 → Vec Ideal S1x64x64 .f32) (gn : Vec Ideal S1x128 .f32)
  (pA pB : ℕ → Fin 4 → Vec Ideal S64x128 .f32) (rd : ℕ → List (View.Piece (Elt Ideal) S32x128x128 .f32) → Vec Ideal S1x128x128 .f32)
  (base : List (View.Piece (Elt Ideal) S32x128x128 .f32)) (s0 : ℕ → Vec Ideal S1x128x128 .f32)
  (hrd : ∀ k < 32, rd k (stA la l1 pA rd base k) = s0 k)
  (hla : LaOk a2 g hg la) (hl1 : L1Ok a2 g hg l1) (hA : PrOk a0 a1 g hg K pA) (hB : PrOk a0 a1 g hg (K + 1) pB) (hs : StOk a0 a1 a2 g hg K s0)
include hlb hrd hla hl1 hA hB hs

/-- The states after the point's two chunks. -/
theorem st_ok : StOk a0 a1 a2 g hg (K + 2) (fun n => View.ld (View.canon (Val := Elt Ideal) (stB v la l1 pA pB rd base 32)) (rS n)) := by
  intro n hn e d
  refine (congrFun (Fold.after_st v la l1 pA pB rd base s0 hrd n hn) (ix3 0 e d)).trans ?_
  exact Inst.nw_at a0 a1 a2 hlb _ _ la l1 pB n (K + 1) _ (hla n hn) (hl1 n hn) (hB n hn)
    (fun e d => Inst.nw_at a0 a1 a2 hlb _ _ la l1 pA n K _ (hla n hn) (hl1 n hn) (hA n hn) (hs n hn) e d) e d

variable (hm : BlockVal.Masks mk) (hgn : ∀ d, gn (ix2 0 d) = a3 (ix1 d))
include hm hgn

/-- The first chunk's tiles. -/
theorem out0_ok : OutOk a0 a1 a2 a3 g hg K (fun n => View.ld (View.canon (Val := Elt Ideal) (outs v la l1 mk gn pA pB rd base)) (rO 0 n)) := by
  intro n hn i x
  refine (congrFun (Fold.after_out0 v la l1 mk gn pA pB rd base s0 hrd n hn) (ix3 0 i x)).trans ?_
  exact Inst.ou_at a0 a1 a2 a3 hlb _ _ la l1 mk hm gn pA n K _ (hla n hn) (hl1 n hn) (hA n hn) (hs n hn) hgn i x

/-- The second chunk's tiles. -/
theorem out1_ok : OutOk a0 a1 a2 a3 g hg (K + 1) (fun n => View.ld (View.canon (Val := Elt Ideal) (outs v la l1 mk gn pA pB rd base)) (rO 1 n)) := by
  intro n hn i x
  refine (congrFun (Fold.after_out1 v la l1 mk gn pA pB rd base s0 hrd n hn) (ix3 0 i x)).trans ?_
  exact Inst.ou_at a0 a1 a2 a3 hlb _ _ la l1 mk hm gn pB n (K + 1) _ (hla n hn) (hl1 n hn) (hB n hn)
    (fun e d => Inst.nw_at a0 a1 a2 hlb _ _ la l1 pA n K _ (hla n hn) (hl1 n hn) (hA n hn) (hs n hn) e d) hgn i x
end

section
variable (hK : K < 64) (x : Vec Ideal S8x64x2048 .bf16) (x3 : Vec Ideal S4x2048x512 .bf16)
  (hx : TokOk a0 K hK x) (hw : WtOk a1 g hg x3)
  (w : Memref sig .tc .vmem S4x2048x512 .bf16) (hw' : w.IsWhole) (a : Memref sig .tc .vmem S8x64x2048 .bf16) (ha : a.IsWhole)
include hx hw

/-- A product of a chunk's tokens and a head's columns is the chunk's projection. -/
theorem prod_eq (n : ℕ) (hn : n < 32) (j : Fin 4) (i : Fin 64) (k : Fin 128) :
    ∑ d : Fin 2048, x (ix3 ⟨n % 8, by omega⟩ i d) * x3 (ix3 ⟨n / 8, by omega⟩ d ⟨128 * j.val + k.val, by omega⟩)
      = RefVal.part a0 a1 (row n) (head g hg n hn) j K i k := by
  unfold RefVal.part RefVal.proj
  rw [dif_pos hK]
  refine Finset.sum_congr rfl fun d _ => congrArg₂ (· * ·) (hx _ _ _) ((hw _ _ _).trans ?_)
  refine congrArg (fun q => a1 (ix2 d q)) (Fin.ext ?_)
  show (128 * j.val + k.val) / 128 * 2048 + ((4 * g + n / 8) * 128 + (128 * j.val + k.val) % 128) = j.val * 2048 + ((4 * g + n / 8) * 128 + k.val)
  omega

/-- The halves stored are the chunk's projection. -/
theorem half_ok (base : List (View.Piece (Elt Ideal) S512x2048 .f32)) :
    PrOk a0 a1 g hg K (fun n j => View.ld (View.canon (Val := Elt Ideal) (prSeq (prH w hw' x3 a ha x) base 8)) (rP n j)) := fun n hn j i k =>
  (Loads.half_at w hw' x3 a ha x base n hn j i k).trans (prod_eq a0 a1 g hg K hK x x3 hx hw n hn j i k)

/-- The first chunk's projection, as stored. -/
theorem init_ok :
    PrOk a0 a1 g hg K (fun n j => View.ld (View.canon (Val := Elt Ideal) (piSeq (prI w hw' x3 a ha x) 4)) (rP n j)) := fun n hn j i k =>
  (Loads.head_at w hw' x3 a ha x n hn j i k).trans (prod_eq a0 a1 g hg K hK x x3 hx hw n hn j i k)
end

end Cert.Chunks

end
-- ==== Proof.PiecesA.lean ====
module

public import proofs.«01_k».proof.Proof.Pieces
public import proofs.«01_k».proof.Proof.Gen.KernelIdeal.Frame
import all proofs.«01_k».proof.Proof.Gen.KernelIdeal.Frame.RunA

@[expose] public section

set_option maxRecDepth 16384

noncomputable section

/-!
# The stores of a row's first grid point
-/

namespace Cert.Pieces

open Idealize.ShloMosaic Idealize.ShloMosaic.Tactic Cert.KernelIdeal Cert.KernelIdeal.Gen Cert.Block

variable {F : FTy → Type} [FloatOps F]

variable (c : Dev nD) (i : grid0.Coords) (arg2 : Memref sig .tc .vmem S8x64x2048 .bf16) (harg2 : arg2.IsWhole) (arg3 : Memref sig .tc .vmem S8x64x2048 .bf16) (harg3 : arg3.IsWhole) (arg4 : Memref sig .tc .vmem S8x64x2048 .bf16) (harg4 : arg4.IsWhole) (arg5 : Memref sig .tc .vmem S4x2048x512 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S7x64x64 .f32) (harg8 : arg8.IsWhole) (arg9 : Memref sig .tc .vmem S1x128 .f32) (harg9 : arg9.IsWhole) (arg10 : Memref sig .tc .vmem S8x128x512 .bf16) (harg10 : arg10.IsWhole) (arg11 : Memref sig .tc .vmem S32x128x128 .f32) (harg11 : arg11.IsWhole) (arg12 : Memref sig .tc .vmem S512x2048 .f32) (harg12 : arg12.IsWhole) (arg13 : Memref sig .tc .vmem S512x2048 .f32) (harg13 : arg13.IsWhole) (hc0 : cond0_0 i)
  (x0 : Vec F S8x64x2048 .bf16) (x1 : Vec F S8x64x2048 .bf16) (x2 : Vec F S8x64x2048 .bf16) (x3 : Vec F S4x2048x512 .bf16) (x4 : Vec F S4x1x128 .f32) (x5 : Vec F S4x1x128 .f32) (x6 : Vec F S7x64x64 .f32) (x7 : Vec F S1x128 .f32)

/-- The projection stored for the next point: the third chunk's, in eight halves. -/
theorem runA_pa : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1
    = prSeq (prH arg5 harg5 x3 arg4 harg4 x2) (piSeq (prI arg5 harg5 x3 arg2 harg2 x0) 4) 8 := by sl_kernel_rfl

/-- The states the point stores. -/
theorem runA_st : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1
    = stB arg11.view (ldT arg6 harg6 x4) (ldT arg7 harg7 x5) (cvP arg12 (piSeq (prI arg5 harg5 x3 arg2 harg2 x0) 4))
        (cvP arg13 (prSeq (prH arg5 harg5 x3 arg3 harg3 x1) [] 8)) (fun k L => arg11.view.readCov L (rS k).toLoadRect) [⟨rZ, stInit⟩] 32 := by sl_kernel_rfl

/-- The output tiles the point stores. -/
theorem runA_out : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1
    = outs arg11.view (ldT arg6 harg6 x4) (ldT arg7 harg7 x5) (ldM arg8 harg8 x6) (ldG arg9 harg9 x7) (cvP arg12 (piSeq (prI arg5 harg5 x3 arg2 harg2 x0) 4))
        (cvP arg13 (prSeq (prH arg5 harg5 x3 arg3 harg3 x1) [] 8)) (fun k L => arg11.view.readCov L (rS k).toLoadRect) [⟨rZ, stInit⟩] := by sl_kernel_rfl

end Cert.Pieces

end
-- ==== Proof.LeftA.lean ====
module

public import proofs.«01_k».proof.Proof.Chunks
public import proofs.«01_k».proof.Proof.PiecesA

@[expose] public section

set_option maxRecDepth 16384

noncomputable section

/-!
# What a row's first grid point leaves
-/

namespace Cert.LeftA

open Idealize.ShloMosaic Cert.KernelIdeal Cert.KernelIdeal.Gen Cert.Block Cert.Pieces Cert.Chunks

variable (c : Dev nD) (i : grid0.Coords) (arg2 : Memref sig .tc .vmem S8x64x2048 .bf16) (harg2 : arg2.IsWhole) (arg3 : Memref sig .tc .vmem S8x64x2048 .bf16) (harg3 : arg3.IsWhole) (arg4 : Memref sig .tc .vmem S8x64x2048 .bf16) (harg4 : arg4.IsWhole) (arg5 : Memref sig .tc .vmem S4x2048x512 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S7x64x64 .f32) (harg8 : arg8.IsWhole) (arg9 : Memref sig .tc .vmem S1x128 .f32) (harg9 : arg9.IsWhole) (arg10 : Memref sig .tc .vmem S8x128x512 .bf16) (harg10 : arg10.IsWhole) (arg11 : Memref sig .tc .vmem S32x128x128 .f32) (harg11 : arg11.IsWhole) (arg12 : Memref sig .tc .vmem S512x2048 .f32) (harg12 : arg12.IsWhole) (arg13 : Memref sig .tc .vmem S512x2048 .f32) (harg13 : arg13.IsWhole) (hc0 : cond0_0 i)
  (x0 : Vec Ideal S8x64x2048 .bf16) (x1 : Vec Ideal S8x64x2048 .bf16) (x2 : Vec Ideal S8x64x2048 .bf16) (x3 : Vec Ideal S4x2048x512 .bf16) (x4 : Vec Ideal S4x1x128 .f32) (x5 : Vec Ideal S4x1x128 .f32) (x6 : Vec Ideal S7x64x64 .f32) (x7 : Vec Ideal S1x128 .f32)

section
variable (a0 : (⟨S8x4096x2048, .bf16⟩ : BufTy).Contents (Elt Ideal)) (a1 : (⟨S2048x8192, .f32⟩ : BufTy).Contents (Elt Ideal))
  (a2 : (⟨S2048, .f32⟩ : BufTy).Contents (Elt Ideal)) (a3 : (⟨S128, .f32⟩ : BufTy).Contents (Elt Ideal))
  (hlb : ∀ i, ∃ r : ℝ, 0 < r ∧ r < 1 ∧ a2 (ix1 i) = (r : EReal))
  (g : ℕ) (hg : g < 4) (K L : ℕ) (hK : K < 64) (hK1 : K + 1 < 64) (hL : L < 64)
  (hw : WtOk a1 g hg x3) (h4 : LogOk a2 g hg x4) (h5 : Log1Ok a2 g hg x5) (h6 : MaskOk x6) (h7 : NormOk a3 x7)
  (h1 : TokOk a0 (K + 1) hK1 x1) (h2 : TokOk a0 L hL x2) (h0 : TokOk a0 K hK x0) (hK0 : K = 0)
include hlb hw h4 h5 h6 h7 h1 h2 h0 hK0

/-- The states, the next projection and the two chunks' tiles the point leaves. -/
theorem left : StOk a0 a1 a2 g hg (K + 2) (fun n => View.ld (sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (rS n))
    ∧ PrOk a0 a1 g hg L (fun n j => View.ld (sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (rP n j))
    ∧ OutOk a0 a1 a2 a3 g hg K (fun n => View.ld (out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (rO 0 n))
    ∧ OutOk a0 a1 a2 a3 g hg (K + 1) (fun n => View.ld (out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (rO 1 n)) := by
  have hla : LaOk a2 g hg (ldT arg6 harg6 x4) := fun n hn d => (Loads.ldT_at arg6 harg6 x4 n hn d).trans (h4 _ d)
  have hl1 : L1Ok a2 g hg (ldT arg7 harg7 x5) := fun n hn d => (Loads.ldT_at arg7 harg7 x5 n hn d).trans (h5 _ d)
  have hm : BlockVal.Masks (ldM arg8 harg8 x6) := fun j t u => by rw [Loads.ldM_at]; exact h6 j t u
  have hgn : ∀ d, ldG arg9 harg9 x7 (ix2 0 d) = a3 (ix1 d) := fun d => (Loads.ldG_at arg9 harg9 x7 d).trans (h7 d)
  have hB : PrOk a0 a1 g hg (K + 1) (cvP arg13 (prSeq (prH arg5 harg5 x3 arg3 harg3 x1) [] 8)) := fun n hn j t x => by
    unfold cvP
    rw [View.readCov_eq_canon']
    exact half_ok a0 a1 g hg (K + 1) hK1 x1 x3 h1 hw arg5 harg5 arg3 harg3 [] n hn j t x
  have hA : PrOk a0 a1 g hg K (cvP arg12 (piSeq (prI arg5 harg5 x3 arg2 harg2 x0) 4)) := fun n hn j t x => by
    unfold cvP
    rw [View.readCov_eq_canon']
    exact init_ok a0 a1 g hg K hK x0 x3 h0 hw arg5 harg5 arg2 harg2 n hn j t x
  have hs : StOk a0 a1 a2 g hg K (fun k => View.ld (Val := Elt Ideal) (e' := .f32) (stInit (F := Ideal)) (rS k)) := fun n hn e d => by
    subst hK0
    exact Loads.init_at n e d
  have hrd := Fold.read_init (F := Ideal) arg11.view (ldT arg6 harg6 x4) (ldT arg7 harg7 x5) (cvP arg12 (piSeq (prI arg5 harg5 x3 arg2 harg2 x0) 4))
  refine ⟨?_, ?_, ?_, ?_⟩
  · unfold sout0_A_0
    rw [View.read_writes_junk_eq_canon, runA_st]
    exact st_ok a0 a1 a2 g hg K hlb arg11.view _ _ _ _ _ _ _ hrd hla hl1 hA hB hs
  · unfold sout0_A_1
    rw [View.read_writes_junk_eq_canon, runA_pa]
    exact half_ok a0 a1 g hg L hL x2 x3 h2 hw arg5 harg5 arg4 harg4 _
  · unfold out0_A_8
    rw [View.read_writes_junk_eq_canon, runA_out]
    exact out0_ok a0 a1 a2 a3 g hg K hlb arg11.view _ _ _ _ _ _ _ _ _ hrd hla hl1 hA hB hs hm hgn
  · unfold out0_A_8
    rw [View.read_writes_junk_eq_canon, runA_out]
    exact out1_ok a0 a1 a2 a3 g hg K hlb arg11.view _ _ _ _ _ _ _ _ _ hrd hla hl1 hA hB hs hm hgn
end

end Cert.LeftA

end
-- ==== Proof.PiecesB.lean ====
module

public import proofs.«01_k».proof.Proof.Pieces
public import proofs.«01_k».proof.Proof.Gen.KernelIdeal.Frame
import all proofs.«01_k».proof.Proof.Gen.KernelIdeal.Frame.RunB

@[expose] public section

set_option maxRecDepth 16384

noncomputable section

/-!
# The stores of a grid point after a row's first
-/

namespace Cert.Pieces

open Idealize.ShloMosaic Idealize.ShloMosaic.Tactic Cert.KernelIdeal Cert.KernelIdeal.Gen Cert.Block

variable {F : FTy → Type} [FloatOps F]

variable (c : Dev nD) (i : grid0.Coords) (arg2 : Memref sig .tc .vmem S8x64x2048 .bf16) (harg2 : arg2.IsWhole) (arg3 : Memref sig .tc .vmem S8x64x2048 .bf16) (harg3 : arg3.IsWhole) (arg4 : Memref sig .tc .vmem S8x64x2048 .bf16) (harg4 : arg4.IsWhole) (arg5 : Memref sig .tc .vmem S4x2048x512 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S7x64x64 .f32) (harg8 : arg8.IsWhole) (arg9 : Memref sig .tc .vmem S1x128 .f32) (harg9 : arg9.IsWhole) (arg10 : Memref sig .tc .vmem S8x128x512 .bf16) (harg10 : arg10.IsWhole) (arg11 : Memref sig .tc .vmem S32x128x128 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i)
  (x0 : Vec F S8x64x2048 .bf16) (x1 : Vec F S8x64x2048 .bf16) (x2 : Vec F S8x64x2048 .bf16) (x3 : Vec F S4x2048x512 .bf16) (x4 : Vec F S4x1x128 .f32) (x5 : Vec F S4x1x128 .f32) (x6 : Vec F S7x64x64 .f32) (x7 : Vec F S1x128 .f32) (xs0 : Vec F S32x128x128 .f32) (xs1 : Vec F S512x2048 .f32)

/-- The projection stored for the next point: the third chunk's, in eight halves. -/
theorem runB_pa : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).2.2.1
    = prSeq (prH arg5 harg5 x3 arg4 harg4 x2) [] 8 := by sl_kernel_rfl

/-- The states the point stores. -/
theorem runB_st : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).2.1
    = stB arg11.view (ldT arg6 harg6 x4) (ldT arg7 harg7 x5) (ldP arg12 harg12 xs1)
        (cvP arg13 (prSeq (prH arg5 harg5 x3 arg3 harg3 x1) [] 8)) (fun k _ => ldS arg11 harg11 xs0 k) [] 32 := by sl_kernel_rfl

/-- The output tiles the point stores. -/
theorem runB_out : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1
    = outs arg11.view (ldT arg6 harg6 x4) (ldT arg7 harg7 x5) (ldM arg8 harg8 x6) (ldG arg9 harg9 x7) (ldP arg12 harg12 xs1)
        (cvP arg13 (prSeq (prH arg5 harg5 x3 arg3 harg3 x1) [] 8)) (fun k _ => ldS arg11 harg11 xs0 k) [] := by sl_kernel_rfl

end Cert.Pieces

end
-- ==== Proof.LeftB.lean ====
module

public import proofs.«01_k».proof.Proof.Chunks
public import proofs.«01_k».proof.Proof.PiecesB

@[expose] public section

set_option maxRecDepth 16384

noncomputable section

/-!
# What a later grid point of a row leaves
-/

namespace Cert.LeftB

open Idealize.ShloMosaic Cert.KernelIdeal Cert.KernelIdeal.Gen Cert.Block Cert.Pieces Cert.Chunks

variable (c : Dev nD) (i : grid0.Coords) (arg2 : Memref sig .tc .vmem S8x64x2048 .bf16) (harg2 : arg2.IsWhole) (arg3 : Memref sig .tc .vmem S8x64x2048 .bf16) (harg3 : arg3.IsWhole) (arg4 : Memref sig .tc .vmem S8x64x2048 .bf16) (harg4 : arg4.IsWhole) (arg5 : Memref sig .tc .vmem S4x2048x512 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S7x64x64 .f32) (harg8 : arg8.IsWhole) (arg9 : Memref sig .tc .vmem S1x128 .f32) (harg9 : arg9.IsWhole) (arg10 : Memref sig .tc .vmem S8x128x512 .bf16) (harg10 : arg10.IsWhole) (arg11 : Memref sig .tc .vmem S32x128x128 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i)
  (x0 : Vec Ideal S8x64x2048 .bf16) (x1 : Vec Ideal S8x64x2048 .bf16) (x2 : Vec Ideal S8x64x2048 .bf16) (x3 : Vec Ideal S4x2048x512 .bf16) (x4 : Vec Ideal S4x1x128 .f32) (x5 : Vec Ideal S4x1x128 .f32) (x6 : Vec Ideal S7x64x64 .f32) (x7 : Vec Ideal S1x128 .f32) (xs0 : Vec Ideal S32x128x128 .f32) (xs1 : Vec Ideal S512x2048 .f32)

section
variable (a0 : (⟨S8x4096x2048, .bf16⟩ : BufTy).Contents (Elt Ideal)) (a1 : (⟨S2048x8192, .f32⟩ : BufTy).Contents (Elt Ideal))
  (a2 : (⟨S2048, .f32⟩ : BufTy).Contents (Elt Ideal)) (a3 : (⟨S128, .f32⟩ : BufTy).Contents (Elt Ideal))
  (hlb : ∀ i, ∃ r : ℝ, 0 < r ∧ r < 1 ∧ a2 (ix1 i) = (r : EReal))
  (g : ℕ) (hg : g < 4) (K L : ℕ) (hK : K < 64) (hK1 : K + 1 < 64) (hL : L < 64)
  (hw : WtOk a1 g hg x3) (h4 : LogOk a2 g hg x4) (h5 : Log1Ok a2 g hg x5) (h6 : MaskOk x6) (h7 : NormOk a3 x7)
  (h1 : TokOk a0 (K + 1) hK1 x1) (h2 : TokOk a0 L hL x2) (hs0 : StOk a0 a1 a2 g hg K (fun n => View.ld xs0 (rS n))) (hp : PrOk a0 a1 g hg K (fun n j => View.ld xs1 (rP n j)))
include hlb hw h4 h5 h6 h7 h1 h2 hs0 hp

/-- The states, the next projection and the two chunks' tiles the point leaves. -/
theorem left : StOk a0 a1 a2 g hg (K + 2) (fun n => View.ld (sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1) (rS n))
    ∧ PrOk a0 a1 g hg L (fun n j => View.ld (sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1) (rP n j))
    ∧ OutOk a0 a1 a2 a3 g hg K (fun n => View.ld (out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1) (rO 0 n))
    ∧ OutOk a0 a1 a2 a3 g hg (K + 1) (fun n => View.ld (out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1) (rO 1 n)) := by
  have hla : LaOk a2 g hg (ldT arg6 harg6 x4) := fun n hn d => (Loads.ldT_at arg6 harg6 x4 n hn d).trans (h4 _ d)
  have hl1 : L1Ok a2 g hg (ldT arg7 harg7 x5) := fun n hn d => (Loads.ldT_at arg7 harg7 x5 n hn d).trans (h5 _ d)
  have hm : BlockVal.Masks (ldM arg8 harg8 x6) := fun j t u => by rw [Loads.ldM_at]; exact h6 j t u
  have hgn : ∀ d, ldG arg9 harg9 x7 (ix2 0 d) = a3 (ix1 d) := fun d => (Loads.ldG_at arg9 harg9 x7 d).trans (h7 d)
  have hB : PrOk a0 a1 g hg (K + 1) (cvP arg13 (prSeq (prH arg5 harg5 x3 arg3 harg3 x1) [] 8)) := fun n hn j t x => by
    unfold cvP
    rw [View.readCov_eq_canon']
    exact half_ok a0 a1 g hg (K + 1) hK1 x1 x3 h1 hw arg5 harg5 arg3 harg3 [] n hn j t x
  have hA : PrOk a0 a1 g hg K (ldP arg12 harg12 xs1) := fun n hn j t x => by
    unfold ldP
    rw [Loads.load_eq]
    exact hp n hn j t x
  have hs : StOk a0 a1 a2 g hg K (ldS arg11 harg11 xs0) := fun n hn e d => by
    unfold ldS
    rw [Loads.load_eq]
    exact hs0 n hn e d
  have hrd : ∀ k < 32, (fun (k : ℕ) (_ : List (View.Piece (Elt Ideal) S32x128x128 .f32)) => ldS arg11 harg11 xs0 k) k
      (stA (ldT arg6 harg6 x4) (ldT arg7 harg7 x5) (ldP arg12 harg12 xs1) (fun k _ => ldS arg11 harg11 xs0 k) [] k) = ldS arg11 harg11 xs0 k := fun k _ => rfl
  refine ⟨?_, ?_, ?_, ?_⟩
  · unfold sout0_B_0
    rw [View.read_writes_junk_eq_canon, runB_st]
    exact st_ok a0 a1 a2 g hg K hlb arg11.view _ _ _ _ _ _ _ hrd hla hl1 hA hB hs
  · unfold sout0_B_1
    rw [View.read_writes_junk_eq_canon, runB_pa]
    exact half_ok a0 a1 g hg L hL x2 x3 h2 hw arg5 harg5 arg4 harg4 _
  · unfold out0_B_8
    rw [View.read_writes_junk_eq_canon, runB_out]
    exact out0_ok a0 a1 a2 a3 g hg K hlb arg11.view _ _ _ _ _ _ _ _ _ hrd hla hl1 hA hB hs hm hgn
  · unfold out0_B_8
    rw [View.read_writes_junk_eq_canon, runB_out]
    exact out1_ok a0 a1 a2 a3 g hg K hlb arg11.view _ _ _ _ _ _ _ _ _ hrd hla hl1 hA hB hs hm hgn
end

end Cert.LeftB

end
-- ==== Proof.MaskLevels.lean ====
module

public import proofs.«01_k».proof.Proof.BlockVal

@[expose] public section

set_option maxRecDepth 16384

noncomputable section

/-!
# The table of masks

The masks are a table of constants: seven levels of 64 rows of 64 entries.
-/

namespace Cert.MaskTab

open Idealize.ShloMosaic Cert.KernelIdeal Cert.KernelIdeal.Gen

/-- A check at every number below a bound. -/
def every (f : ℕ → Bool) (n : ℕ) : Bool := Nat.rec (motive := fun _ => Bool) true (fun k ih => f k && ih) n

/-- A check passed below the bound passes at each number below it. -/
theorem every_at (f : ℕ → Bool) (n : ℕ) (h : every f n = true) (k : ℕ) (hk : k < n) : f k = true := by
  induction n with
  | zero => omega
  | succ n ih =>
    have h' : (f n && every f n) = true := h
    rw [Bool.and_eq_true] at h'
    rcases Nat.lt_succ_iff_lt_or_eq.mp hk with h2 | h2
    · exact ih h'.2 h2
    · exact h2 ▸ h'.1

/-- Where the level of half width `w` is on; the diagonal, for no width. -/
def onN (w u v : ℕ) : Bool :=
  bif Nat.beq w 0 then Nat.beq u v else Nat.beq (u / (2 * w)) (v / (2 * w)) && (Nat.ble w (u % (2 * w)) && Nat.blt (v % (2 * w)) w)

/-- The table's entries of a level from a base are one where the level is on. -/
def level (w base : ℕ) : Bool :=
  every (fun u => every (fun v => Nat.beq (lit0t (base + u * 64 + v)).toNat (bif onN w u v then 1065353216 else 0)) 64) 64

/-- Level 0 of the table. -/
theorem level0 : level 32 0 = true := by decide +kernel
/-- Level 1 of the table. -/
theorem level1 : level 16 4096 = true := by decide +kernel
/-- Level 2 of the table. -/
theorem level2 : level 8 8192 = true := by decide +kernel
/-- Level 3 of the table. -/
theorem level3 : level 4 12288 = true := by decide +kernel
/-- Level 4 of the table. -/
theorem level4 : level 2 16384 = true := by decide +kernel
/-- Level 5 of the table. -/
theorem level5 : level 1 20480 = true := by decide +kernel
/-- Level 6 of the table. -/
theorem level6 : level 0 24576 = true := by decide +kernel

end Cert.MaskTab

end
-- ==== Proof.MaskTab.lean ====
module

public import proofs.«01_k».proof.Proof.MaskLevels

@[expose] public section

set_option maxRecDepth 16384

noncomputable section

/-!
# The table of masks, at an index
-/

namespace Cert.MaskTab

open Idealize.ShloMosaic Cert.KernelIdeal Cert.KernelIdeal.Gen

/-- A level's entries, at a row and a column. -/
theorem level_at (w b u v : ℕ) (h : level w b = true) (hu : u < 64) (hv : v < 64) :
    Nat.beq (lit0t (b + u * 64 + v)).toNat (bif onN w u v then 1065353216 else 0) = true := by
  unfold level at h
  exact every_at _ _ (every_at _ _ h u hu) v hv

attribute [local irreducible] level

/-- The half widths. -/
def width (j : Fin 7) : ℕ := if j.val = 6 then 0 else 32 / 2 ^ j.val

/-- Every level of the table. -/
theorem levels (j : Fin 7) : level (width j) (j.val * 4096) = true := by
  have key : ∀ w b, w = width j → b = j.val * 4096 → level w b = true → level (width j) (j.val * 4096) = true := by
    rintro w b rfl rfl h; exact h
  match j with
  | ⟨0, _⟩ => exact key _ _ (by simp [width]) (by simp) level0
  | ⟨1, _⟩ => exact key _ _ (by simp [width]) (by simp) level1
  | ⟨2, _⟩ => exact key _ _ (by simp [width]) (by simp) level2
  | ⟨3, _⟩ => exact key _ _ (by simp [width]) (by simp) level3
  | ⟨4, _⟩ => exact key _ _ (by simp [width]) (by simp) level4
  | ⟨5, _⟩ => exact key _ _ (by simp [width]) (by simp) level5
  | ⟨6, _⟩ => exact key _ _ (by simp [width]) (by simp) level6

/-- The two ways to say where a level is on agree. -/
theorem on_eq : ∀ (j : Fin 7) (u v : Fin 64), onN (width j) u.val v.val = BlockVal.isOn j u v := by decide +kernel

/-- The table of masks holds one where a level is on and zero elsewhere. -/
theorem table (j : Fin 7) (u v : Fin 64) : lit0 (S7x64x64.rowMajor (ix3 j u v)) = if BlockVal.isOn j u v = true then 0x3F800000#32 else 0#32 := by
  have e : (S7x64x64.rowMajor (ix3 j u v)).val = j.val * 4096 + u.val * 64 + v.val := by
    refine (Shape.rowMajor_val_three _).trans ?_
    show _ = _
    simp
    omega
  have h := level_at _ _ u.val v.val (levels j) u.isLt v.isLt
  rw [on_eq] at h
  have h1 := Nat.eq_of_beq_eq_true h
  have h2 : lit0 (S7x64x64.rowMajor (ix3 j u v)) = lit0t (S7x64x64.rowMajor (ix3 j u v)).val := rfl
  rw [h2, e]
  apply BitVec.eq_of_toNat_eq
  rw [h1]
  cases BlockVal.isOn j u v <;> rfl

end Cert.MaskTab

end
-- ==== Proof.Input.lean ====
module

public import proofs.«01_k».proof.Proof.Gen.KernelIdeal.Frame
public import proofs.«01_k».proof.Proof.MaskTab
public import Idealize.ShloMosaic.Lib.Pipeline.ValueKit
public import Idealize.ShloMosaic.Lib.Claim

@[expose] public section

set_option maxRecDepth 16384

noncomputable section

/-!
# The kernel's input blocks, at an index
-/

namespace Cert.Input

open Idealize.ShloMosaic Idealize.ShloMosaic.TcCoe Cert.KernelIdeal Cert.KernelIdeal.Gen

/-- Which block each window holds at each point. -/
theorem idx : ∀ t : Fin cfg0.N, win0_0.index t = ![0, 0, 0] ∧ win0_1.index t = ![0, 2 * (t.val % 32) + 1, 0]
    ∧ win0_2.index t = ![0, min (2 * (t.val % 32) + 2) 63, 0] ∧ win0_3.index t = ![t.val / 32, 0, 0] ∧ win0_4.index t = ![t.val / 32, 0, 0]
    ∧ win0_5.index t = ![t.val / 32, 0, 0] ∧ win0_6.index t = ![0, 0, 0] ∧ win0_7.index t = ![0, 0] ∧ win0_8.index t = ![0, t.val % 32, t.val / 32] := by
  decide +kernel

variable (m : (ℓ : Loc nD τ sig) → Buf (Elt Ideal) ℓ) (c : Dev nD) (t : Fin cfg0.N)

/-- The first chunk's tokens. -/
theorem h0_at (b : Fin 8) (i : Fin 64) (x : Fin 2048) : iblk m c 0 t (ix3 b i x) = m ((c : Thread nD τ).loc main_arg0) (ix3 b ⟨i.val, by omega⟩ x) := by
  obtain ⟨e, _⟩ := idx t
  rw [← V_main_arg0 m c]
  blk_ext [iblk, e]

/-- The point's second chunk's tokens. -/
theorem h1_at (b : Fin 8) (i : Fin 64) (x : Fin 2048) : iblk m c 1 t (ix3 b i x)
    = m ((c : Thread nD τ).loc main_arg0) (ix3 b ⟨(2 * (t.val % 32) + 1) * 64 + i.val, by omega⟩ x) := by
  obtain ⟨_, e, _⟩ := idx t
  rw [← V_main_arg0 m c]
  blk_ext [iblk, e]

/-- The next point's first chunk's tokens (the last chunk's at a row's last point). -/
theorem h2_at (b : Fin 8) (i : Fin 64) (x : Fin 2048) : iblk m c 2 t (ix3 b i x)
    = m ((c : Thread nD τ).loc main_arg0) (ix3 b ⟨(min (2 * (t.val % 32) + 2) 63) * 64 + i.val, by omega⟩ x) := by
  obtain ⟨_, _, e, _⟩ := idx t
  rw [← V_main_arg0 m c]
  blk_ext [iblk, e]

/-- The arguments' shape-typed readings. -/
def arg1 : FVec Ideal S2048x8192 .f32 := m ((c : Thread nD τ).loc main_arg1)
def arg2 : FVec Ideal S2048 .f32 := m ((c : Thread nD τ).loc main_arg2)

/-- The weights: a head's 512 columns are its queries, gate logits, values and output gate. -/
theorem w_at (e : Fin 4) (x : Fin 2048) (j : Fin 512) : iblk m c 3 t (ix3 e x j)
    = arg1 m c (ix2 x ⟨j.val / 128 * 2048 + ((4 * (t.val / 32) + e.val) * 128 + j.val % 128), by
        have : t.val < 128 := t.isLt; omega⟩) := by
  have ht : t.val < 128 := t.isLt
  obtain ⟨_, _, _, e3, _⟩ := idx t
  have : iblk m c 3 t (ix3 e x j) = V m c main_v4 (ix3 ⟨4 * (t.val / 32) + e.val, by omega⟩ x j) := by
    blk_ext [iblk, e3]
  rw [this]
  entry_read
  pointwise
  unfold arg1
  exact congrArg (fun i => m ((c : Thread nD τ).loc main_arg1) (ix2 x i)) (Fin.ext (Nat.add_assoc _ _ _))

/-- The log of the lower bound. -/
theorem la_at (e : Fin 4) (d : Fin 128) : iblk m c 4 t (ix3 e 0 d)
    = Ideal.log (arg2 m c (ix1 ⟨(4 * (t.val / 32) + e.val) * 128 + d.val, by have : t.val < 128 := t.isLt; omega⟩)) := by
  have ht : t.val < 128 := t.isLt
  obtain ⟨_, _, _, _, e4, _⟩ := idx t
  have : iblk m c 4 t (ix3 e 0 d) = V m c main_v5 (ix3 ⟨4 * (t.val / 32) + e.val, by omega⟩ 0 d) := by
    blk_ext [iblk, e4]
  rw [this]
  entry_read
  pointwise [arg2]

/-- The log of the lower bound's complement. -/
theorem l1_at (e : Fin 4) (d : Fin 128) : iblk m c 5 t (ix3 e 0 d)
    = Ideal.log1p (-(arg2 m c (ix1 ⟨(4 * (t.val / 32) + e.val) * 128 + d.val, by have : t.val < 128 := t.isLt; omega⟩))) := by
  have ht : t.val < 128 := t.isLt
  obtain ⟨_, _, _, _, _, e5, _⟩ := idx t
  have : iblk m c 5 t (ix3 e 0 d) = V m c main_v7 (ix3 ⟨4 * (t.val / 32) + e.val, by omega⟩ 0 d) := by
    blk_ext [iblk, e5]
  rw [this]
  entry_read
  pointwise [arg2]

/-- The norm's weights. -/
theorem gn_at (d : Fin 128) : iblk m c 7 t (ix2 0 d) = m ((c : Thread nD τ).loc main_arg3) (ix1 d) := by
  obtain ⟨_, _, _, _, _, _, _, e7, _⟩ := idx t
  have : iblk m c 7 t (ix2 0 d) = V m c main_v8 (ix2 0 d) := by
    blk_ext [iblk, e7]
  rw [this]
  entry_read
  pointwise

/-- The masks. -/
theorem mask_at (j : Fin 7) (u v : Fin 64) : iblk m c 6 t (ix3 j u v) = Ideal.ofBits .f32 (if BlockVal.isOn j u v = true then 0x3F800000#32 else 0#32) := by
  obtain ⟨_, _, _, _, _, _, e6, _⟩ := idx t
  have : iblk m c 6 t (ix3 j u v) = V m c (Pipeline.arrRef spec0 6) (ix3 j u v) := by
    blk_ext [iblk, e6]
  rw [this, ← MaskTab.table]
  entry_read
  generalize lit0 (S7x64x64.rowMajor (ix3 j u v)) = w
  rfl

/-- A mask is above a half where its level is on. -/
theorem half_lt (b : Bool) : Ideal.ofBits .f32 1056964608#32 < Ideal.ofBits .f32 (if b = true then 0x3F800000#32 else 0#32) ↔ b = true := by
  cases b
  · rw [if_neg Bool.false_ne_true, Ideal.ofBits_zero_f32]
    simp [Ideal.ofBits, Ideal.ieee]
    norm_cast
    norm_num
  · rw [if_pos rfl, Ideal.ofBits_one_f32]
    simp [Ideal.ofBits, Ideal.ieee]
    norm_cast
    norm_num

end Cert.Input

end
-- ==== Proof.Grid.lean ====
module

public import proofs.«01_k».proof.Proof.LeftA
public import proofs.«01_k».proof.Proof.LeftB
public import proofs.«01_k».proof.Proof.Input

@[expose] public section

set_option maxRecDepth 16384

noncomputable section

/-!
# What every grid point leaves
-/

namespace Cert.Grid

open Idealize.ShloMosaic Idealize.ShloMosaic.TcCoe Cert.KernelIdeal Cert.KernelIdeal.Gen Cert.Pieces Cert.Chunks

variable (m : (ℓ : Loc nD τ sig) → Buf (Elt Ideal) ℓ) (c : Dev nD)

/-- The tokens. -/
def A0 : (⟨S8x4096x2048, .bf16⟩ : BufTy).Contents (Elt Ideal) := m ((c : Thread nD τ).loc main_arg0)
/-- The projection's weights. -/
def A1 : (⟨S2048x8192, .f32⟩ : BufTy).Contents (Elt Ideal) := m ((c : Thread nD τ).loc main_arg1)
/-- The lower bounds. -/
def A2 : (⟨S2048, .f32⟩ : BufTy).Contents (Elt Ideal) := m ((c : Thread nD τ).loc main_arg2)
/-- The norm's weights. -/
def A3 : (⟨S128, .f32⟩ : BufTy).Contents (Elt Ideal) := m ((c : Thread nD τ).loc main_arg3)

/-- A point's four heads are among sixteen. -/
theorem grp (t : Fin cfg0.N) : t.val / 32 < 4 := by
  have : t.val < 128 := t.isLt
  omega

/-- What the invariant says of a point: its states, its next projection and its two chunks' tiles. -/
def Inv (t : Fin cfg0.N) (r : Vec Ideal S8x128x512 .bf16 × Vec Ideal S32x128x128 .f32 × Vec Ideal S512x2048 .f32) : Prop :=
  StOk (A0 m c) (A1 m c) (A2 m c) (t.val / 32) (grp t) (2 * (t.val % 32) + 2) (fun n => View.ld r.2.1 (rS n))
    ∧ PrOk (A0 m c) (A1 m c) (t.val / 32) (grp t) (min (2 * (t.val % 32) + 2) 63) (fun n j => View.ld r.2.2 (rP n j))
    ∧ OutOk (A0 m c) (A1 m c) (A2 m c) (A3 m c) (t.val / 32) (grp t) (2 * (t.val % 32)) (fun n => View.ld r.1 (rO 0 n))
    ∧ OutOk (A0 m c) (A1 m c) (A2 m c) (A3 m c) (t.val / 32) (grp t) (2 * (t.val % 32) + 1) (fun n => View.ld r.1 (rO 1 n))

/-- The point's blocks hold what the two chunks need. -/
theorem wt (t : Fin cfg0.N) : WtOk (A1 m c) (t.val / 32) (grp t) (iblk m c 3 t) := fun e d j => Input.w_at m c t e d j

/-- The logs of the lower bounds. -/
theorem log (t : Fin cfg0.N) : LogOk (A2 m c) (t.val / 32) (grp t) (iblk m c 4 t) := fun e d => Input.la_at m c t e d

/-- The logs of the lower bounds' complements. -/
theorem log1 (t : Fin cfg0.N) : Log1Ok (A2 m c) (t.val / 32) (grp t) (iblk m c 5 t) := fun e d => Input.l1_at m c t e d

/-- The masks. -/
theorem mask (t : Fin cfg0.N) : MaskOk (iblk m c 6 t) := fun j u v => by
  rw [Input.mask_at m c t j u v]
  exact Input.half_lt _

/-- The norm's weights. -/
theorem norm (t : Fin cfg0.N) : NormOk (A3 m c) (iblk m c 7 t) := fun d => Input.gn_at m c t d

/-- The point's first chunk, at a row's first point. -/
theorem tok0 (t : Fin cfg0.N) (h0 : t.val % 32 = 0) (hK : 2 * (t.val % 32) < 64) : TokOk (A0 m c) (2 * (t.val % 32)) hK (iblk m c 0 t) := fun b i d =>
  (Input.h0_at m c t b i d).trans (congrArg (fun q => A0 m c (ix3 b q d)) (Fin.ext (by show i.val = 2 * (t.val % 32) * 64 + i.val; omega)))

/-- The point's second chunk. -/
theorem tok1 (t : Fin cfg0.N) (hK : 2 * (t.val % 32) + 1 < 64) : TokOk (A0 m c) (2 * (t.val % 32) + 1) hK (iblk m c 1 t) := fun b i d => Input.h1_at m c t b i d

/-- The next point's first chunk. -/
theorem tok2 (t : Fin cfg0.N) (hK : min (2 * (t.val % 32) + 2) 63 < 64) : TokOk (A0 m c) (min (2 * (t.val % 32) + 2) 63) hK (iblk m c 2 t) := fun b i d =>
  Input.h2_at m c t b i d

variable (hlb : ∀ i, ∃ r : ℝ, 0 < r ∧ r < 1 ∧ A2 m c (ix1 i) = (r : EReal))
include hlb

/-- A row's first point. -/
theorem first (t : Fin cfg0.N) (h0 : t.val % 32 = 0) : Inv m c t (outsAt0 m c t.val t.isLt) := by
  have e := outsAt0_A m c t h0
  generalize outsAt0 m c t.val t.isLt = r at e ⊢
  subst e
  unfold Inv
  dsimp only
  have k0 : 2 * (t.val % 32) < 64 := by omega
  have k1 : 2 * (t.val % 32) + 1 < 64 := by omega
  have k2 : min (2 * (t.val % 32) + 2) 63 < 64 := by omega
  have k3 : 2 * (t.val % 32) = 0 := by omega
  exact LeftA.left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0)
    (iblk m c 0 t) (iblk m c 1 t) (iblk m c 2 t) (iblk m c 3 t) (iblk m c 4 t) (iblk m c 5 t) (iblk m c 6 t) (iblk m c 7 t)
    (A0 m c) (A1 m c) (A2 m c) (A3 m c) hlb (t.val / 32) (grp t) (2 * (t.val % 32)) (min (2 * (t.val % 32) + 2) 63) k0 k1 k2
    (wt m c t) (log m c t) (log1 m c t) (mask m c t) (norm m c t) (tok1 m c t k1) (tok2 m c t k2) (tok0 m c t h0 k0) k3

/-- A later point of a row, from the point before it. -/
theorem later (t s : Fin cfg0.N) (h0 : ¬ t.val % 32 = 0) (hs : s.val = t.val - 1) (ih : Inv m c s (outsAt0 m c s.val s.isLt)) :
    Inv m c t (outsAt0 m c t.val t.isLt) := by
  have ih' : Inv m c s (outsAt0 m c (t.val - 1) (Nat.lt_of_le_of_lt (Nat.sub_le _ _) t.isLt)) := by
    have : ∀ (n : ℕ) (hn : n < cfg0.N), n = s.val → outsAt0 m c n hn = outsAt0 m c s.val s.isLt := by
      rintro n hn rfl; rfl
    rw [this _ _ hs.symm]
    exact ih
  have e := outsAt0_B m c t h0
  generalize outsAt0 m c t.val t.isLt = r at e ⊢
  subst e
  generalize outsAt0 m c (t.val - 1) (Nat.lt_of_le_of_lt (Nat.sub_le _ _) t.isLt) = r at ih' ⊢
  unfold Inv
  dsimp only
  have e1 : s.val / 32 = t.val / 32 := by omega
  have e2 : 2 * (s.val % 32) + 2 = 2 * (t.val % 32) := by omega
  have e3 : min (2 * (s.val % 32) + 2) 63 = 2 * (t.val % 32) := by omega
  obtain ⟨i1, i2, -, -⟩ := ih'
  have k1 : 2 * (t.val % 32) + 1 < 64 := by omega
  have k2 : min (2 * (t.val % 32) + 2) 63 < 64 := by omega
  refine LeftB.left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h))
    (iblk m c 0 t) (iblk m c 1 t) (iblk m c 2 t) (iblk m c 3 t) (iblk m c 4 t) (iblk m c 5 t) (iblk m c 6 t) (iblk m c 7 t) _ _
    (A0 m c) (A1 m c) (A2 m c) (A3 m c) hlb (t.val / 32) (grp t) (2 * (t.val % 32)) (min (2 * (t.val % 32) + 2) 63) k1 k2
    (wt m c t) (log m c t) (log1 m c t) (mask m c t) (norm m c t) (tok1 m c t k1) (tok2 m c t k2) ?_ ?_
  · have : ∀ (g : ℕ) (hg : g < 4) (K : ℕ), s.val / 32 = g → 2 * (s.val % 32) + 2 = K → ∀ f, StOk (A0 m c) (A1 m c) (A2 m c) (s.val / 32) (grp s) (2 * (s.val % 32) + 2) f
        → StOk (A0 m c) (A1 m c) (A2 m c) g hg K f := by
      rintro g hg K rfl rfl f h; exact h
    exact this _ _ _ e1 e2 _ i1
  · have : ∀ (g : ℕ) (hg : g < 4) (K : ℕ), s.val / 32 = g → min (2 * (s.val % 32) + 2) 63 = K → ∀ f, PrOk (A0 m c) (A1 m c) (s.val / 32) (grp s) (min (2 * (s.val % 32) + 2) 63) f
        → PrOk (A0 m c) (A1 m c) g hg K f := by
      rintro g hg K rfl rfl f h; exact h
    exact this _ _ _ e1 e3 _ i2

/-- Every point. -/
theorem every (n : ℕ) (hn : n < cfg0.N) : Inv m c ⟨n, hn⟩ (outsAt0 m c n hn) := by
  induction n with
  | zero => exact first m c hlb ⟨0, hn⟩ rfl
  | succ n ih =>
    by_cases h0 : (n + 1) % 32 = 0
    · exact first m c hlb ⟨n + 1, hn⟩ h0
    · exact later m c hlb ⟨n + 1, hn⟩ ⟨n, by omega⟩ h0 rfl (ih (by omega))

end Cert.Grid

end
-- ==== Proof.Final.lean ====
module

public import proofs.«01_k».proof.Proof.Grid

@[expose] public section

set_option maxRecDepth 16384

noncomputable section

/-!
# The array the kernel leaves
-/

namespace Cert.Final

open Idealize.ShloMosaic Idealize.ShloMosaic.TcCoe Cert.KernelIdeal Cert.KernelIdeal.Gen Cert.Pieces Cert.Chunks Cert.Grid

/-- The layer's output, as the reference gives it. -/
def val (a0 : (⟨S8x4096x2048, .bf16⟩ : BufTy).Contents (Elt Ideal)) (a1 : (⟨S2048x8192, .f32⟩ : BufTy).Contents (Elt Ideal))
    (a2 : (⟨S2048, .f32⟩ : BufTy).Contents (Elt Ideal)) (a3 : (⟨S128, .f32⟩ : BufTy).Contents (Elt Ideal)) (b : Fin 8) (t : Fin 4096) (e : Fin 2048) : EReal :=
  Spec.fin (RefVal.o a0 a1 a2 b ⟨e.val / 128, by omega⟩ (t.val / 64) ⟨t.val % 64, by omega⟩) (a3 (ix1 ⟨e.val % 128, by omega⟩))
    (RefVal.part a0 a1 b ⟨e.val / 128, by omega⟩ 3 (t.val / 64) ⟨t.val % 64, by omega⟩ ⟨e.val % 128, by omega⟩) ⟨e.val % 128, by omega⟩

variable (m : (ℓ : Loc nD τ sig) → Buf (Elt Ideal) ℓ) (c : Dev nD)

/-- The output array. -/
def G : (⟨S8x4096x2048, .bf16⟩ : BufTy).Contents (Elt Ideal) := fun i => val (A0 m c) (A1 m c) (A2 m c) (A3 m c) (i 0) (i 1) (i 2)

variable (hlb : ∀ i, ∃ r : ℝ, 0 < r ∧ r < 1 ∧ A2 m c (ix1 i) = (r : EReal))
include hlb

/-- A point's block, at an index. -/
theorem block_at (t : Fin cfg0.N) (b : Fin 8) (i : Fin 128) (x : Fin 512) : (outsAt0 m c t.val t.isLt).1 (ix3 b i x)
    = val (A0 m c) (A1 m c) (A2 m c) (A3 m c) b ⟨t.val % 32 * 128 + i.val, by omega⟩ ⟨t.val / 32 * 512 + x.val, by have := grp t; omega⟩ := by
  have ht := grp t
  obtain ⟨-, -, i0, i1⟩ := Grid.every m c hlb t.val t.isLt
  generalize (outsAt0 m c t.val t.isLt).1 = r at i0 i1 ⊢
  have hn : 8 * (x.val / 128) + b.val < 32 := by omega
  have hb : row (8 * (x.val / 128) + b.val) = b := Fin.ext (by show (8 * (x.val / 128) + b.val) % 8 = b.val; omega)
  have hh : head (t.val / 32) (grp t) (8 * (x.val / 128) + b.val) hn = ⟨(t.val / 32 * 512 + x.val) / 128, by omega⟩ :=
    Fin.ext (by show 4 * (t.val / 32) + (8 * (x.val / 128) + b.val) / 8 = (t.val / 32 * 512 + x.val) / 128; omega)
  have hx : (⟨x.val % 128, by omega⟩ : Fin 128) = ⟨(t.val / 32 * 512 + x.val) % 128, by omega⟩ := Fin.ext (by show x.val % 128 = (t.val / 32 * 512 + x.val) % 128; omega)
  by_cases hi : i.val < 64
  · have h := i0 (8 * (x.val / 128) + b.val) hn ⟨i.val, hi⟩ ⟨x.val % 128, by omega⟩
    have e : (rO 0 (8 * (x.val / 128) + b.val)).idx (ix3 0 (⟨i.val, hi⟩ : Fin 64) (⟨x.val % 128, by omega⟩ : Fin 128)) = ix3 b i x := by
      funext a
      fin_cases a
      · exact Fin.ext (by show (8 * (x.val / 128) + b.val) % 8 + 1 * 0 = b.val; omega)
      · exact Fin.ext (by show 64 * 0 + 1 * i.val = i.val; omega)
      · exact Fin.ext (by show 128 * ((8 * (x.val / 128) + b.val) / 8 % 4) + 1 * (x.val % 128) = x.val; omega)
    have hk : 2 * (t.val % 32) = (t.val % 32 * 128 + i.val) / 64 := by omega
    have hi' : (⟨i.val, hi⟩ : Fin 64) = ⟨(t.val % 32 * 128 + i.val) % 64, by omega⟩ := Fin.ext (by show i.val = (t.val % 32 * 128 + i.val) % 64; omega)
    refine ((congrArg r e).symm.trans h).trans ?_
    unfold val
    rw [hb, hh, hk, hi', hx]
  · have h := i1 (8 * (x.val / 128) + b.val) hn ⟨i.val - 64, by omega⟩ ⟨x.val % 128, by omega⟩
    have e : (rO 1 (8 * (x.val / 128) + b.val)).idx (ix3 0 (⟨i.val - 64, by omega⟩ : Fin 64) (⟨x.val % 128, by omega⟩ : Fin 128)) = ix3 b i x := by
      funext a
      fin_cases a
      · exact Fin.ext (by show (8 * (x.val / 128) + b.val) % 8 + 1 * 0 = b.val; omega)
      · exact Fin.ext (by show 64 * 1 + 1 * (i.val - 64) = i.val; omega)
      · exact Fin.ext (by show 128 * ((8 * (x.val / 128) + b.val) / 8 % 4) + 1 * (x.val % 128) = x.val; omega)
    have hk : 2 * (t.val % 32) + 1 = (t.val % 32 * 128 + i.val) / 64 := by omega
    have hi' : (⟨i.val - 64, by omega⟩ : Fin 64) = ⟨(t.val % 32 * 128 + i.val) % 64, by omega⟩ := Fin.ext (by show i.val - 64 = (t.val % 32 * 128 + i.val) % 64; omega)
    refine ((congrArg r e).symm.trans h).trans ?_
    unfold val
    rw [hb, hh, hk, hi', hx]

/-- The array after every point. -/
theorem array : (dats m 0 c).arrAt 8 cfg0.N = G m c := by
  refine (dats m 0 c).arrAt_eq_of_covers 8 _ (by decide +kernel) fun t hf y => ?_
  blk_simp
  rw [after0_8]
  obtain ⟨-, -, -, -, -, -, -, -, e8⟩ := Input.idx t
  have b0 : (y 0).val < 8 := (y 0).isLt
  have b1 : (y 1).val < 128 := (y 1).isLt
  have b2 : (y 2).val < 512 := (y 2).isLt
  have hy : y = ix3 (⟨(y 0).val, b0⟩ : Fin 8) (⟨(y 1).val, b1⟩ : Fin 128) (⟨(y 2).val, b2⟩ : Fin 512) := by
    funext a
    fin_cases a <;> rfl
  have k0 : (((win0_8.blk t).view.emb y) 0).val = (y 0).val := by blk_simp [e8]
  have k1 : (((win0_8.blk t).view.emb y) 1).val = t.val % 32 * 128 + (y 1).val := by blk_simp [e8]
  have k2 : (((win0_8.blk t).view.emb y) 2).val = t.val / 32 * 512 + (y 2).val := by blk_simp [e8]
  refine (congrArg (outsAt0 m c t.val t.isLt).1 hy).trans ((block_at m c hlb t _ _ _).trans ?_)
  unfold G
  have q0 := Fin.ext (a := ⟨(y 0).val, b0⟩) (b := (win0_8.blk t).view.emb y 0) k0.symm
  have q1 := Fin.ext (a := (⟨t.val % 32 * 128 + (y 1).val, by omega⟩ : Fin 4096)) (b := (win0_8.blk t).view.emb y 1) k1.symm
  have q2 := Fin.ext (a := (⟨t.val / 32 * 512 + (y 2).val, by have := grp t; omega⟩ : Fin 2048)) (b := (win0_8.blk t).view.emb y 2) k2.symm
  rw [← q0, ← q1, ← q2]

end Cert.Final

end
-- ==== Proof.Bounds.lean ====
module

public import proofs.«01_k».proof.Proof.Gen.Pre_lower_bound_inside
public import Idealize.ShloMosaic.Lib.Pipeline.ValueKit
public import Idealize.ShloMosaic.Lib.Claim

@[expose] public section

noncomputable section

/-!
# The precondition, read
-/

namespace Cert.Bounds

open Idealize.ShloMosaic Cert.Pre_lower_bound_inside Cert.Pre_lower_bound_inside.Gen

/-- Where the precondition holds, every lower bound is a real number strictly between zero and one. -/
theorem real (a0 : FVec Ideal S8x4096x2048 .bf16) (a1 : FVec Ideal S2048x8192 .f32) (a2 : FVec Ideal S2048 .f32) (a3 : FVec Ideal S128 .f32)
    (h : fn (F := Ideal) a0 a1 a2 a3 = fun _ => 1#1) (i : Fin 2048) : ∃ r : ℝ, 0 < r ∧ r < 1 ∧ a2 (ix1 i) = (r : EReal) := by
  have h1 := congrFun h (ix1 i)
  have h2 : BitVec.ofBool (decide ((Ideal.ofBits .f32 0#32 : EReal) < a2 (ix1 i))) &&& BitVec.ofBool (decide (a2 (ix1 i) < (Ideal.ofBits .f32 0x3F800000#32 : EReal))) = 1#1 := h1
  rw [Ideal.ofBits_zero_f32, Ideal.ofBits_one_f32] at h2
  have h3 : (0 : EReal) < a2 (ix1 i) := by
    by_contra hc
    rw [decide_eq_false hc] at h2
    revert h2
    generalize decide (a2 (ix1 i) < (1 : EReal)) = q
    revert q; decide
  have h4 : a2 (ix1 i) < (1 : EReal) := by
    by_contra hc
    rw [decide_eq_false hc] at h2
    revert h2
    generalize decide ((0 : EReal) < a2 (ix1 i)) = q
    revert q; decide
  generalize a2 (ix1 i) = x at h3 h4 ⊢
  induction x using EReal.rec with
  | bot => exact absurd h3 (not_lt_bot)
  | top => exact absurd h4 (not_lt.mpr le_top)
  | coe r => exact ⟨r, EReal.coe_pos.mp h3, by exact_mod_cast h4, rfl⟩

end Cert.Bounds

end
-- ==== Proof.Same.lean ====
module
public import proofs.«01_k».proof.Defs
public import proofs.«01_k».proof.Proof.Gen.Kernel
public import proofs.«01_k».proof.Proof.Gen.KernelIdeal
public import proofs.«01_k».proof.Proof.Gen.KernelIdeal.Frame
@[expose] public section
set_option maxRecDepth 16384

namespace Cert.Same

open Idealize.ShloMosaic Idealize.ShloMosaic.Tactic Cert.KernelIdeal

/-- The idealized kernel's run and its unchanged arguments, over the machine's floats. -/
def ran : Prop :=
  ∀ (m : (ℓ : Loc nD τ sig) → Buf (Elt Bits) ℓ) (g : Dev nD → PrngReg), Cert.Pre_Kernel m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel's frame is that statement: the two programs have one text. -/
theorem same : ran = Cert.quiescent_Kernel := by sl_kernel_rfl

end Cert.Same
end
-- ==== Proof.GluSame.lean ====
module
public import proofs.«01_k».proof.Defs
public import proofs.«01_k».proof.Proof.Gen.KernelGlu
public import proofs.«01_k».proof.Proof.Gen.KernelGluIdeal
public import proofs.«01_k».proof.Proof.Gen.KernelGluIdeal.Frame
@[expose] public section
set_option maxRecDepth 16384

namespace Cert.GluSame

open Idealize.ShloMosaic Idealize.ShloMosaic.Tactic Cert.KernelGluIdeal

/-- The idealized kernel's run and its unchanged arguments, over the machine's floats. -/
def ran : Prop :=
  ∀ (m : (ℓ : Loc nD τ sig) → Buf (Elt Bits) ℓ) (g : Dev nD → PrngReg), Cert.Pre_KernelGlu m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel's frame is that statement: the two programs have one text. -/
theorem same : ran = Cert.quiescent_KernelGlu := by sl_kernel_rfl

end Cert.GluSame
end
-- ==== Proof.GluBlock.lean ====
module

public import proofs.«01_k».proof.Proof.Gen.KernelGluIdeal.Value
public import Idealize.ShloMosaic.Lib.Pipeline.ValueKit
public import Idealize.ShloMosaic.Lib.Claim

@[expose] public section

set_option maxRecDepth 16384

noncomputable section

/-!
# The gated unit: what one block computes

A block is four tiles of 512 columns, each one product of the block's rows by a tile of the value's columns, times the
logistic of their product by the same tile of the gate's columns, scaled and added to the residual stream.
-/

namespace Cert.GluBlock

open Idealize.ShloMosaic Idealize.ShloMosaic.TcCoe Cert.KernelGluIdeal Cert.KernelGluIdeal.Gen

/-- One tile. -/
def tile (a : FVec Ideal S512x2048 .bf16) (w v : Vec Ideal S2048x512 .bf16) (x : Vec Ideal S512x512 .f32) (g : Vec Ideal S1x1x512 .f32) : FVec Ideal S512x512 .f32 :=
  k0_pay7 (F := Ideal) a w v x g

/-- One tile, at an index. -/
theorem tile_at (a : FVec Ideal S512x2048 .bf16) (w v : Vec Ideal S2048x512 .bf16) (x : Vec Ideal S512x512 .f32) (g : Vec Ideal S1x1x512 .f32) (r k : Fin 512) :
    tile a w v x g (ix2 r k) = x (ix2 r k) + (∑ d : Fin 2048, a (ix2 r d) * w (ix2 d k)) * Ideal.logistic (∑ d : Fin 2048, a (ix2 r d) * v (ix2 d k)) * g (ix3 0 0 k) := by
  pointwise [tile, k0_pay7]

/-- What one block computes. -/
def block (a : Vec Ideal S512x2048 .bf16) (w : Vec Ideal S2048x4096 .bf16) (x : Vec Ideal S512x2048 .f32) (g : Vec Ideal S1x1x2048 .f32) : Vec Ideal S512x2048 .f32 :=
  fun i => x i + (∑ d : Fin 2048, a (ix2 (i 0) d) * w (ix2 d ⟨(i 1).val, by have : (i 1).val < 2048 := (i 1).isLt; omega⟩))
    * Ideal.logistic (∑ d : Fin 2048, a (ix2 (i 0) d) * w (ix2 d ⟨2048 + (i 1).val, by have : (i 1).val < 2048 := (i 1).isLt; omega⟩)) * g (ix3 0 0 (i 1))

/-- The tile that starts at column `o` is the block's part there. -/
theorem tile_block (a : Vec Ideal S512x2048 .bf16) (w : Vec Ideal S2048x4096 .bf16) (x : Vec Ideal S512x2048 .f32) (g : Vec Ideal S1x1x2048 .f32) (o : ℕ)
    (iw : ∀ b, ![0, o] b + S2048x512.size b ≤ S2048x4096.size b) (iv : ∀ b, ![0, 2048 + o] b + S2048x512.size b ≤ S2048x4096.size b)
    (ix : ∀ b, ![0, o] b + S512x512.size b ≤ S512x2048.size b) (ig : ∀ b, ![0, 0, o] b + S1x1x512.size b ≤ S1x1x2048.size b)
    (y : S512x512.Idx) :
    tile a (View.ld w (Rect.unit (s := S2048x4096) ![0, o] S2048x512.size iw)) (View.ld w (Rect.unit (s := S2048x4096) ![0, 2048 + o] S2048x512.size iv))
      (View.ld x (Rect.unit (s := S512x2048) ![0, o] S512x512.size ix)) (View.ld g (Rect.unit (s := S1x1x2048) ![0, 0, o] S1x1x512.size ig)) y
      = block a w x g ((Rect.unit (s := S512x2048) ![0, o] S512x512.size ix).emb y) := by
  have b0 : (y 0).val < 512 := (y 0).isLt
  have b1 : (y 1).val < 512 := (y 1).isLt
  have hy : y = ix2 (⟨(y 0).val, b0⟩ : Fin 512) (⟨(y 1).val, b1⟩ : Fin 512) := by
    funext a
    fin_cases a <;> rfl
  generalize (⟨(y 0).val, b0⟩ : Fin 512) = r at hy
  generalize (⟨(y 1).val, b1⟩ : Fin 512) = k at hy
  subst hy
  refine (tile_at _ _ _ _ _ r k).trans ?_
  have ho : o + 512 ≤ 2048 := ix 1
  have e : (Rect.unit (s := S512x2048) ![0, o] S512x512.size ix).emb (ix2 r k) = ix2 r (⟨o + k.val, by omega⟩ : Fin 2048) := by
    funext b; fin_cases b
    · exact Fin.ext (by show 0 + 1 * r.val = r.val; omega)
    · exact Fin.ext (by show o + 1 * k.val = o + k.val; omega)
  rw [e]
  refine congrArg₂ (· + ·) (congrArg x e) (congrArg₂ (· * ·) (congrArg₂ (· * ·) ?_ (congrArg Ideal.logistic ?_)) ?_)
  · refine Finset.sum_congr rfl fun d _ => congrArg (a (ix2 r d) * ·) (congrArg w (by
      funext b; fin_cases b
      · exact Fin.ext (by show 0 + 1 * d.val = d.val; omega)
      · exact Fin.ext (by show o + 1 * k.val = o + k.val; omega)))
  · refine Finset.sum_congr rfl fun d _ => congrArg (a (ix2 r d) * ·) (congrArg w (by
      funext b; fin_cases b
      · exact Fin.ext (by show 0 + 1 * d.val = d.val; omega)
      · exact Fin.ext (by show 2048 + o + 1 * k.val = 2048 + (o + k.val); omega)))
  · refine congrArg g (by
      funext b; fin_cases b
      · exact Fin.ext (by show 0 + 1 * 0 = 0; omega)
      · exact Fin.ext (by show 0 + 1 * 0 = 0; omega)
      · exact Fin.ext (by show o + 1 * k.val = o + k.val; omega))

/-- What the kernel leaves in a block is what the block computes. -/
theorem out_eq (a : Vec Ideal S512x2048 .bf16) (w : Vec Ideal S2048x4096 .bf16) (x : Vec Ideal S512x2048 .f32) (g : Vec Ideal S1x1x2048 .f32) :
    out0_4 (F := Ideal) a w x g = block a w x g := by
  have ea : k0_pay2 (F := Ideal) (View.ld a r0_0) = a := by
    rw [View.ld_unit_zero (by funext b; fin_cases b <;> rfl)]
    funext y
    pointwise [k0_pay2]
  funext y
  refine View.canon_apply_of_pieces (block a w x g) _ ?_ y (cover0_4 _ _ _ _ y)
  intro p hp
  simp only [List.mem_cons, List.not_mem_nil, or_false] at hp
  rcases hp with rfl | rfl | rfl | rfl <;> intro z
  · refine Eq.trans ?_ (tile_block a w x g 1536 (by decide) (by decide) (by decide) (by decide) z)
    show tile (k0_pay2 (View.ld a r0_0)) (View.ld w r0_13) (View.ld w r0_14) (View.ld x r0_15) (View.ld g r0_16) z = _
    rw [ea]
  · refine Eq.trans ?_ (tile_block a w x g 1024 (by decide) (by decide) (by decide) (by decide) z)
    show tile (k0_pay2 (View.ld a r0_0)) (View.ld w r0_9) (View.ld w r0_10) (View.ld x r0_11) (View.ld g r0_12) z = _
    rw [ea]
  · refine Eq.trans ?_ (tile_block a w x g 512 (by decide) (by decide) (by decide) (by decide) z)
    show tile (k0_pay2 (View.ld a r0_0)) (View.ld w r0_5) (View.ld w r0_6) (View.ld x r0_7) (View.ld g r0_8) z = _
    rw [ea]
  · refine Eq.trans ?_ (tile_block a w x g 0 (by decide) (by decide) (by decide) (by decide) z)
    show tile (k0_pay2 (View.ld a r0_0)) (View.ld w r0_1) (View.ld w r0_2) (View.ld x r0_3) (View.ld g r0_4) z = _
    rw [ea]

end Cert.GluBlock

end
-- ==== Proof.GluVal.lean ====
module

public import proofs.«01_k».proof.Proof.GluBlock

@[expose] public section

set_option maxRecDepth 16384

noncomputable section

/-!
# The gated unit: the kernel's array
-/

namespace Cert.GluVal

open Idealize.ShloMosaic Idealize.ShloMosaic.TcCoe Cert.KernelGluIdeal Cert.KernelGluIdeal.Gen Cert.GluBlock

/-- The residual stream plus the scaled gated unit, at a token and a channel. -/
def val (a0 : FVec Ideal S8x4096x2048 .bf16) (a1 : FVec Ideal S2048x4096 .f32) (a2 : FVec Ideal S8x4096x2048 .f32) (a3 : FVec Ideal S8x1x2048 .f32)
    (b : Fin 8) (t : Fin 4096) (e : Fin 2048) : EReal :=
  a2 (ix3 b t e) + a3 (ix3 b 0 e) * ((∑ d : Fin 2048, a0 (ix3 b t d) * a1 (ix2 d ⟨e.val, by omega⟩))
    * Ideal.logistic (∑ d : Fin 2048, a0 (ix3 b t d) * a1 (ix2 d ⟨2048 + e.val, by omega⟩)))

/-- The same, as an array of all tokens one after another. -/
def G (a0 : FVec Ideal S8x4096x2048 .bf16) (a1 : FVec Ideal S2048x4096 .f32) (a2 : FVec Ideal S8x4096x2048 .f32) (a3 : FVec Ideal S8x1x2048 .f32) :
    FVec Ideal S32768x2048 .f32 :=
  fun i => val a0 a1 a2 a3 ⟨(i 0).val / 4096, by have : (i 0).val < 32768 := (i 0).isLt; omega⟩ ⟨(i 0).val % 4096, by omega⟩ (i 1)

/-- Which block each window holds at each point. -/
theorem idx : ∀ t : Fin cfg0.N, win0_0.index t = ![t.val, 0] ∧ win0_1.index t = ![0, 0] ∧ win0_2.index t = ![t.val, 0]
    ∧ win0_3.index t = ![t.val / 8, 0, 0] ∧ win0_4.index t = ![t.val, 0] := by
  decide +kernel

section
variable (m : (ℓ : Loc nD τ sig) → Buf (Elt Ideal) ℓ) (c : Dev nD) (t : Fin cfg0.N)

/-- The arguments, at their shapes. -/
def arg0 : FVec Ideal S8x4096x2048 .bf16 := m ((c.tc : Thread nD τ).loc main_arg0)
def arg1 : FVec Ideal S2048x4096 .f32 := m ((c.tc : Thread nD τ).loc main_arg1)
def arg2 : FVec Ideal S8x4096x2048 .f32 := m ((c.tc : Thread nD τ).loc main_arg2)
def arg3 : FVec Ideal S8x1x2048 .f32 := m ((c.tc : Thread nD τ).loc main_arg3)

/-- The block's token of a row. -/
theorem token (r : Fin 512) : (t.val * 512 + r.val) / 4096 < 8 ∧ (t.val * 512 + r.val) % 4096 < 4096 := by
  have : t.val < 64 := t.isLt
  omega

/-- The block's activations. -/
theorem a_at (r : Fin 512) (d : Fin 2048) : iblk m c 0 t (ix2 r d) = arg0 m c (ix3 ⟨_, (token t r).1⟩ ⟨_, (token t r).2⟩ d) := by
  have ht : t.val < 64 := t.isLt
  obtain ⟨e, _⟩ := idx t
  have : iblk m c 0 t (ix2 r d) = V m c main_v0 (ix2 ⟨t.val * 512 + r.val, by omega⟩ d) := by
    blk_ext [iblk, e]
  rw [this]
  entry_read
  pointwise [arg0]

/-- The weights. -/
theorem w_at (d : Fin 2048) (k : Fin 4096) : iblk m c 1 t (ix2 d k) = arg1 m c (ix2 d k) := by
  obtain ⟨_, e, _⟩ := idx t
  have : iblk m c 1 t (ix2 d k) = V m c main_v1 (ix2 d k) := by
    blk_ext [iblk, e]
  rw [this]
  entry_read
  pointwise [arg1]

/-- The block's residual stream. -/
theorem x_at (r : Fin 512) (d : Fin 2048) : iblk m c 2 t (ix2 r d) = arg2 m c (ix3 ⟨_, (token t r).1⟩ ⟨_, (token t r).2⟩ d) := by
  have ht : t.val < 64 := t.isLt
  obtain ⟨_, _, e, _⟩ := idx t
  have : iblk m c 2 t (ix2 r d) = V m c main_v2 (ix2 ⟨t.val * 512 + r.val, by omega⟩ d) := by
    blk_ext [iblk, e]
  rw [this]
  entry_read
  pointwise [arg2]

/-- The block's scale. -/
theorem g_at (k : Fin 2048) : iblk m c 3 t (ix3 0 0 k) = arg3 m c (ix3 ⟨t.val / 8, by have : t.val < 64 := t.isLt; omega⟩ 0 k) := by
  obtain ⟨_, _, _, e, _⟩ := idx t
  unfold arg3
  rw [← V_main_arg3 m c]
  blk_ext [iblk, e]

/-- A block's element, from the arguments' elements it reads. -/
theorem block_val (a : Vec Ideal S512x2048 .bf16) (w : Vec Ideal S2048x4096 .bf16) (x : Vec Ideal S512x2048 .f32) (g : Vec Ideal S1x1x2048 .f32)
    (a0 : FVec Ideal S8x4096x2048 .bf16) (a1 : FVec Ideal S2048x4096 .f32) (a2 : FVec Ideal S8x4096x2048 .f32) (a3 : FVec Ideal S8x1x2048 .f32)
    (r : Fin 512) (k : Fin 2048) (b : Fin 8) (t : Fin 4096) (ha : ∀ d, a (ix2 r d) = a0 (ix3 b t d)) (hw : ∀ d k, w (ix2 d k) = a1 (ix2 d k))
    (hx : x (ix2 r k) = a2 (ix3 b t k)) (hg : g (ix3 0 0 k) = a3 (ix3 b 0 k)) : block a w x g (ix2 r k) = val a0 a1 a2 a3 b t k := by
  unfold val
  rw [mul_comm (a3 _), ← hx, ← hg]
  simp only [← ha, ← hw]
  rfl

/-- The array after every point. -/
theorem array : (dats m 0 c).arrAt 4 cfg0.N = G (arg0 m c) (arg1 m c) (arg2 m c) (arg3 m c) := by
  refine (dats m 0 c).arrAt_eq_of_covers 4 _ (by decide +kernel) fun t hf y => ?_
  have ht : t.val < 64 := t.isLt
  blk_simp
  rw [after0_4, out_eq]
  obtain ⟨-, -, -, -, e⟩ := idx t
  have b0 : (y 0).val < 512 := (y 0).isLt
  have b1 : (y 1).val < 2048 := (y 1).isLt
  have hy : y = ix2 (⟨(y 0).val, b0⟩ : Fin 512) (⟨(y 1).val, b1⟩ : Fin 2048) := by
    funext a
    fin_cases a <;> rfl
  have k0 : (((win0_4.blk t).view.emb y) 0).val = t.val * 512 + (y 0).val := by blk_simp [e]
  have k1 : (((win0_4.blk t).view.emb y) 1).val = (y 1).val := by blk_simp [e]
  have hi : (win0_4.blk t).view.emb y = ix2 (⟨t.val * 512 + (y 0).val, by omega⟩ : Fin 32768) (⟨(y 1).val, b1⟩ : Fin 2048) := by
    funext a
    fin_cases a
    · exact Fin.ext k0
    · exact Fin.ext k1
  rw [hi]
  refine (congrArg (block _ _ _ _) hy).trans ?_
  have hb : (⟨(t.val * 512 + (y 0).val) / 4096, by omega⟩ : Fin 8) = ⟨t.val / 8, by omega⟩ := Fin.ext (by show (t.val * 512 + (y 0).val) / 4096 = t.val / 8; omega)
  refine block_val _ _ _ _ _ _ _ _ _ _ _ _ (a_at m c t _) (w_at m c t) (x_at m c t _ _) ((g_at m c t _).trans ?_)
  rw [← hb]
  rfl

end

end Cert.GluVal

end
-- ==== Proof.GluRef.lean ====
module

public import proofs.«01_k».proof.Proof.GluVal
public import proofs.«01_k».proof.Proof.Gen.ReferenceGluIdeal.Run

@[expose] public section

set_option maxRecDepth 16384

noncomputable section

/-!
# The gated unit: the reference's array
-/

namespace Cert.GluRef

open Idealize.ShloMosaic Idealize.ShloMosaic.TcCoe Cert.ReferenceGluIdeal Cert.ReferenceGluIdeal.Gen

/-- The reference's array. -/
theorem reference_at (a0 : FVec Ideal S8x4096x2048 .bf16) (a1 : FVec Ideal S2048x4096 .f32) (a2 : FVec Ideal S8x4096x2048 .f32) (a3 : FVec Ideal S8x1x2048 .f32) :
    shapeCast S32768x2048 (addf a2 (mulf (broadcastInDim S8x4096x2048 ![0, 1, 2] bcast_S8x1x2048_S8x4096x2048_0_1_2 a3) (mulf (extractStridedSlice S8x4096x2048 ![0, 0, 0] (Host.dotGeneral dot_S8x4096x2048_S2048x4096_S8x4096x4096_2_0_01_1_n_n none (extf .f32 a0 bitsLt_bf16_f32) a1) slices_S8x4096x4096_S8x4096x2048_0_0_0) (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 2048] (Host.dotGeneral dot_S8x4096x2048_S2048x4096_S8x4096x4096_2_0_01_1_n_n none (extf .f32 a0 bitsLt_bf16_f32) a1) slices_S8x4096x4096_S8x4096x2048_0_0_2048)))))))) shapeCasts_S8x4096x2048_S32768x2048
      = GluVal.G a0 a1 a2 a3 := by
  funext y
  have b0 : (y 0).val < 32768 := (y 0).isLt
  have b1 : (y 1).val < 2048 := (y 1).isLt
  have hy : y = ix2 (⟨(y 0).val, b0⟩ : Fin 32768) (⟨(y 1).val, b1⟩ : Fin 2048) := by
    funext a
    fin_cases a <;> rfl
  generalize (⟨(y 0).val, b0⟩ : Fin 32768) = r at hy
  generalize (⟨(y 1).val, b1⟩ : Fin 2048) = k at hy
  subst hy
  pointwise [GluVal.G, GluVal.val, Ideal.logistic]

end Cert.GluRef

end
-- ==== Proof.OutSame.lean ====
module
public import proofs.«01_k».proof.Defs
public import proofs.«01_k».proof.Proof.Gen.KernelOut
public import proofs.«01_k».proof.Proof.Gen.KernelOutIdeal
public import proofs.«01_k».proof.Proof.Gen.KernelOutIdeal.Frame
@[expose] public section
set_option maxRecDepth 16384

namespace Cert.OutSame

open Idealize.ShloMosaic Idealize.ShloMosaic.Tactic Cert.KernelOutIdeal

/-- The idealized kernel's run and its unchanged arguments, over the machine's floats. -/
def ran : Prop :=
  ∀ (m : (ℓ : Loc nD τ sig) → Buf (Elt Bits) ℓ) (g : Dev nD → PrngReg), Cert.Pre_KernelOut m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel's frame is that statement: the two programs have one text. -/
theorem same : ran = Cert.quiescent_KernelOut := by sl_kernel_rfl

end Cert.OutSame
end
-- ==== Proof.OutBlock.lean ====
module

public import proofs.«01_k».proof.Proof.Gen.KernelOutIdeal.Value
public import Idealize.ShloMosaic.Lib.Pipeline.ValueKit
public import Idealize.ShloMosaic.Lib.Claim

@[expose] public section

set_option maxRecDepth 16384

noncomputable section

/-!
# The output projection: what one block computes

A block is four tiles of 512 columns, each the product of the block's rows by a tile of the weights' columns, scaled and
added to the residual stream.
-/

namespace Cert.OutBlock

open Idealize.ShloMosaic Idealize.ShloMosaic.TcCoe Cert.KernelOutIdeal Cert.KernelOutIdeal.Gen

/-- One tile. -/
def tile (a : FVec Ideal S512x2048 .bf16) (w : Vec Ideal S2048x512 .bf16) (x : Vec Ideal S512x512 .f32) (g : Vec Ideal S1x1x512 .f32) : FVec Ideal S512x512 .f32 :=
  k0_pay2 (F := Ideal) a w x g

/-- One tile, at an index. -/
theorem tile_at (a : FVec Ideal S512x2048 .bf16) (w : Vec Ideal S2048x512 .bf16) (x : Vec Ideal S512x512 .f32) (g : Vec Ideal S1x1x512 .f32) (r k : Fin 512) :
    tile a w x g (ix2 r k) = x (ix2 r k) + (∑ d : Fin 2048, a (ix2 r d) * w (ix2 d k)) * g (ix3 0 0 k) := by
  pointwise [tile, k0_pay2]

/-- What one block computes. -/
def block (a : Vec Ideal S512x2048 .bf16) (w : Vec Ideal S2048x2048 .bf16) (x : Vec Ideal S512x2048 .f32) (g : Vec Ideal S1x1x2048 .f32) : Vec Ideal S512x2048 .f32 :=
  fun i => x i + (∑ d : Fin 2048, a (ix2 (i 0) d) * w (ix2 d (i 1))) * g (ix3 0 0 (i 1))

/-- The tile that starts at column `o` is the block's part there. -/
theorem tile_block (a : Vec Ideal S512x2048 .bf16) (w : Vec Ideal S2048x2048 .bf16) (x : Vec Ideal S512x2048 .f32) (g : Vec Ideal S1x1x2048 .f32) (o : ℕ)
    (iw : ∀ b, ![0, o] b + S2048x512.size b ≤ S2048x2048.size b)
    (ix : ∀ b, ![0, o] b + S512x512.size b ≤ S512x2048.size b) (ig : ∀ b, ![0, 0, o] b + S1x1x512.size b ≤ S1x1x2048.size b)
    (y : S512x512.Idx) :
    tile a (View.ld w (Rect.unit (s := S2048x2048) ![0, o] S2048x512.size iw))
      (View.ld x (Rect.unit (s := S512x2048) ![0, o] S512x512.size ix)) (View.ld g (Rect.unit (s := S1x1x2048) ![0, 0, o] S1x1x512.size ig)) y
      = block a w x g ((Rect.unit (s := S512x2048) ![0, o] S512x512.size ix).emb y) := by
  have b0 : (y 0).val < 512 := (y 0).isLt
  have b1 : (y 1).val < 512 := (y 1).isLt
  have hy : y = ix2 (⟨(y 0).val, b0⟩ : Fin 512) (⟨(y 1).val, b1⟩ : Fin 512) := by
    funext a
    fin_cases a <;> rfl
  generalize (⟨(y 0).val, b0⟩ : Fin 512) = r at hy
  generalize (⟨(y 1).val, b1⟩ : Fin 512) = k at hy
  subst hy
  refine (tile_at _ _ _ _ r k).trans ?_
  have ho : o + 512 ≤ 2048 := ix 1
  have e : (Rect.unit (s := S512x2048) ![0, o] S512x512.size ix).emb (ix2 r k) = ix2 r (⟨o + k.val, by omega⟩ : Fin 2048) := by
    funext b; fin_cases b
    · exact Fin.ext (by show 0 + 1 * r.val = r.val; omega)
    · exact Fin.ext (by show o + 1 * k.val = o + k.val; omega)
  rw [e]
  refine congrArg₂ (· + ·) (congrArg x e) (congrArg₂ (· * ·) ?_ ?_)
  · refine Finset.sum_congr rfl fun d _ => congrArg (a (ix2 r d) * ·) (congrArg w (by
      funext b; fin_cases b
      · exact Fin.ext (by show 0 + 1 * d.val = d.val; omega)
      · exact Fin.ext (by show o + 1 * k.val = o + k.val; omega)))
  · refine congrArg g (by
      funext b; fin_cases b
      · exact Fin.ext (by show 0 + 1 * 0 = 0; omega)
      · exact Fin.ext (by show 0 + 1 * 0 = 0; omega)
      · exact Fin.ext (by show o + 1 * k.val = o + k.val; omega))

/-- What the kernel leaves in a block is what the block computes. -/
theorem out_eq (a : Vec Ideal S512x2048 .bf16) (w : Vec Ideal S2048x2048 .bf16) (x : Vec Ideal S512x2048 .f32) (g : Vec Ideal S1x1x2048 .f32) :
    out0_4 (F := Ideal) a w x g = block a w x g := by
  have ea : k0_pay3 (F := Ideal) (View.ld a r0_0) = a := by
    rw [View.ld_unit_zero (by funext b; fin_cases b <;> rfl)]
    funext y
    pointwise [k0_pay3]
  funext y
  refine View.canon_apply_of_pieces (block a w x g) _ ?_ y (cover0_4 _ _ _ _ y)
  intro p hp
  simp only [List.mem_cons, List.not_mem_nil, or_false] at hp
  rcases hp with rfl | rfl | rfl | rfl <;> intro z
  · refine Eq.trans ?_ (tile_block a w x g 1536 (by decide) (by decide) (by decide) z)
    show tile (k0_pay3 (View.ld a r0_0)) (View.ld w r0_10) (View.ld x r0_11) (View.ld g r0_12) z = _
    rw [ea]
  · refine Eq.trans ?_ (tile_block a w x g 1024 (by decide) (by decide) (by decide) z)
    show tile (k0_pay3 (View.ld a r0_0)) (View.ld w r0_7) (View.ld x r0_8) (View.ld g r0_9) z = _
    rw [ea]
  · refine Eq.trans ?_ (tile_block a w x g 512 (by decide) (by decide) (by decide) z)
    show tile (k0_pay3 (View.ld a r0_0)) (View.ld w r0_4) (View.ld x r0_5) (View.ld g r0_6) z = _
    rw [ea]
  · refine Eq.trans ?_ (tile_block a w x g 0 (by decide) (by decide) (by decide) z)
    show tile (k0_pay3 (View.ld a r0_0)) (View.ld w r0_1) (View.ld x r0_2) (View.ld g r0_3) z = _
    rw [ea]

end Cert.OutBlock

end
-- ==== Proof.OutVal.lean ====
module

public import proofs.«01_k».proof.Proof.OutBlock

@[expose] public section

set_option maxRecDepth 16384

noncomputable section

/-!
# The output projection: the kernel's array
-/

namespace Cert.OutVal

open Idealize.ShloMosaic Idealize.ShloMosaic.TcCoe Cert.KernelOutIdeal Cert.KernelOutIdeal.Gen Cert.OutBlock

/-- The residual stream plus the scaled output projection, at a token and a channel. -/
def val (a0 : FVec Ideal S8x4096x2048 .bf16) (a1 : FVec Ideal S2048x2048 .f32) (a2 : FVec Ideal S8x4096x2048 .f32) (a3 : FVec Ideal S8x1x2048 .f32)
    (b : Fin 8) (t : Fin 4096) (e : Fin 2048) : EReal :=
  a2 (ix3 b t e) + a3 (ix3 b 0 e) * ∑ d : Fin 2048, a0 (ix3 b t d) * a1 (ix2 d e)

/-- The same, as an array of all tokens one after another. -/
def G (a0 : FVec Ideal S8x4096x2048 .bf16) (a1 : FVec Ideal S2048x2048 .f32) (a2 : FVec Ideal S8x4096x2048 .f32) (a3 : FVec Ideal S8x1x2048 .f32) :
    FVec Ideal S32768x2048 .f32 :=
  fun i => val a0 a1 a2 a3 ⟨(i 0).val / 4096, by have : (i 0).val < 32768 := (i 0).isLt; omega⟩ ⟨(i 0).val % 4096, by omega⟩ (i 1)

/-- Which block each window holds at each point. -/
theorem idx : ∀ t : Fin cfg0.N, win0_0.index t = ![t.val, 0] ∧ win0_1.index t = ![0, 0] ∧ win0_2.index t = ![t.val, 0]
    ∧ win0_3.index t = ![t.val / 8, 0, 0] ∧ win0_4.index t = ![t.val, 0] := by
  decide +kernel

section
variable (m : (ℓ : Loc nD τ sig) → Buf (Elt Ideal) ℓ) (c : Dev nD) (t : Fin cfg0.N)

/-- The arguments, at their shapes. -/
def arg0 : FVec Ideal S8x4096x2048 .bf16 := m ((c.tc : Thread nD τ).loc main_arg0)
def arg1 : FVec Ideal S2048x2048 .f32 := m ((c.tc : Thread nD τ).loc main_arg1)
def arg2 : FVec Ideal S8x4096x2048 .f32 := m ((c.tc : Thread nD τ).loc main_arg2)
def arg3 : FVec Ideal S8x1x2048 .f32 := m ((c.tc : Thread nD τ).loc main_arg3)

/-- The block's token of a row. -/
theorem token (r : Fin 512) : (t.val * 512 + r.val) / 4096 < 8 ∧ (t.val * 512 + r.val) % 4096 < 4096 := by
  have : t.val < 64 := t.isLt
  omega

/-- The block's activations. -/
theorem a_at (r : Fin 512) (d : Fin 2048) : iblk m c 0 t (ix2 r d) = arg0 m c (ix3 ⟨_, (token t r).1⟩ ⟨_, (token t r).2⟩ d) := by
  have ht : t.val < 64 := t.isLt
  obtain ⟨e, _⟩ := idx t
  have : iblk m c 0 t (ix2 r d) = V m c main_v0 (ix2 ⟨t.val * 512 + r.val, by omega⟩ d) := by
    blk_ext [iblk, e]
  rw [this]
  entry_read
  pointwise [arg0]

/-- The weights. -/
theorem w_at (d : Fin 2048) (k : Fin 2048) : iblk m c 1 t (ix2 d k) = arg1 m c (ix2 d k) := by
  obtain ⟨_, e, _⟩ := idx t
  have : iblk m c 1 t (ix2 d k) = V m c main_v1 (ix2 d k) := by
    blk_ext [iblk, e]
  rw [this]
  entry_read
  pointwise [arg1]

/-- The block's residual stream. -/
theorem x_at (r : Fin 512) (d : Fin 2048) : iblk m c 2 t (ix2 r d) = arg2 m c (ix3 ⟨_, (token t r).1⟩ ⟨_, (token t r).2⟩ d) := by
  have ht : t.val < 64 := t.isLt
  obtain ⟨_, _, e, _⟩ := idx t
  have : iblk m c 2 t (ix2 r d) = V m c main_v2 (ix2 ⟨t.val * 512 + r.val, by omega⟩ d) := by
    blk_ext [iblk, e]
  rw [this]
  entry_read
  pointwise [arg2]

/-- The block's scale. -/
theorem g_at (k : Fin 2048) : iblk m c 3 t (ix3 0 0 k) = arg3 m c (ix3 ⟨t.val / 8, by have : t.val < 64 := t.isLt; omega⟩ 0 k) := by
  obtain ⟨_, _, _, e, _⟩ := idx t
  unfold arg3
  rw [← V_main_arg3 m c]
  blk_ext [iblk, e]

/-- A block's element, from the arguments' elements it reads. -/
theorem block_val (a : Vec Ideal S512x2048 .bf16) (w : Vec Ideal S2048x2048 .bf16) (x : Vec Ideal S512x2048 .f32) (g : Vec Ideal S1x1x2048 .f32)
    (a0 : FVec Ideal S8x4096x2048 .bf16) (a1 : FVec Ideal S2048x2048 .f32) (a2 : FVec Ideal S8x4096x2048 .f32) (a3 : FVec Ideal S8x1x2048 .f32)
    (r : Fin 512) (k : Fin 2048) (b : Fin 8) (t : Fin 4096) (ha : ∀ d, a (ix2 r d) = a0 (ix3 b t d)) (hw : ∀ d k, w (ix2 d k) = a1 (ix2 d k))
    (hx : x (ix2 r k) = a2 (ix3 b t k)) (hg : g (ix3 0 0 k) = a3 (ix3 b 0 k)) : block a w x g (ix2 r k) = val a0 a1 a2 a3 b t k := by
  unfold val
  rw [mul_comm (a3 _), ← hx, ← hg]
  simp only [← ha, ← hw]
  rfl

/-- The array after every point. -/
theorem array : (dats m 0 c).arrAt 4 cfg0.N = G (arg0 m c) (arg1 m c) (arg2 m c) (arg3 m c) := by
  refine (dats m 0 c).arrAt_eq_of_covers 4 _ (by decide +kernel) fun t hf y => ?_
  have ht : t.val < 64 := t.isLt
  blk_simp
  rw [after0_4, out_eq]
  obtain ⟨-, -, -, -, e⟩ := idx t
  have b0 : (y 0).val < 512 := (y 0).isLt
  have b1 : (y 1).val < 2048 := (y 1).isLt
  have hy : y = ix2 (⟨(y 0).val, b0⟩ : Fin 512) (⟨(y 1).val, b1⟩ : Fin 2048) := by
    funext a
    fin_cases a <;> rfl
  have k0 : (((win0_4.blk t).view.emb y) 0).val = t.val * 512 + (y 0).val := by blk_simp [e]
  have k1 : (((win0_4.blk t).view.emb y) 1).val = (y 1).val := by blk_simp [e]
  have hi : (win0_4.blk t).view.emb y = ix2 (⟨t.val * 512 + (y 0).val, by omega⟩ : Fin 32768) (⟨(y 1).val, b1⟩ : Fin 2048) := by
    funext a
    fin_cases a
    · exact Fin.ext k0
    · exact Fin.ext k1
  rw [hi]
  refine (congrArg (block _ _ _ _) hy).trans ?_
  have hb : (⟨(t.val * 512 + (y 0).val) / 4096, by omega⟩ : Fin 8) = ⟨t.val / 8, by omega⟩ := Fin.ext (by show (t.val * 512 + (y 0).val) / 4096 = t.val / 8; omega)
  refine block_val _ _ _ _ _ _ _ _ _ _ _ _ (a_at m c t _) (w_at m c t) (x_at m c t _ _) ((g_at m c t _).trans ?_)
  rw [← hb]
  rfl

end

end Cert.OutVal

end
-- ==== Proof.OutRef.lean ====
module

public import proofs.«01_k».proof.Proof.OutVal
public import proofs.«01_k».proof.Proof.Gen.ReferenceOutIdeal.Run

@[expose] public section

set_option maxRecDepth 16384

noncomputable section

/-!
# The output projection: the reference's array
-/

namespace Cert.OutRef

open Idealize.ShloMosaic Idealize.ShloMosaic.TcCoe Cert.ReferenceOutIdeal Cert.ReferenceOutIdeal.Gen

/-- The reference's array. -/
theorem reference_at (a0 : FVec Ideal S8x4096x2048 .bf16) (a1 : FVec Ideal S2048x2048 .f32) (a2 : FVec Ideal S8x4096x2048 .f32) (a3 : FVec Ideal S8x1x2048 .f32) :
    shapeCast S32768x2048 (addf a2 (mulf (broadcastInDim S8x4096x2048 ![0, 1, 2] bcast_S8x1x2048_S8x4096x2048_0_1_2 a3) (Host.dotGeneral dot_S8x4096x2048_S2048x2048_S8x4096x2048_2_0_01_1_n_n none (extf .f32 a0 bitsLt_bf16_f32) a1))) shapeCasts_S8x4096x2048_S32768x2048
      = OutVal.G a0 a1 a2 a3 := by
  funext y
  have b0 : (y 0).val < 32768 := (y 0).isLt
  have b1 : (y 1).val < 2048 := (y 1).isLt
  have hy : y = ix2 (⟨(y 0).val, b0⟩ : Fin 32768) (⟨(y 1).val, b1⟩ : Fin 2048) := by
    funext a
    fin_cases a <;> rfl
  generalize (⟨(y 0).val, b0⟩ : Fin 32768) = r at hy
  generalize (⟨(y 1).val, b1⟩ : Fin 2048) = k at hy
  subst hy
  pointwise [OutVal.G, OutVal.val]

end Cert.OutRef

end
-- ==== Proof.NormSame.lean ====
module
public import proofs.«01_k».proof.Defs
public import proofs.«01_k».proof.Proof.Gen.KernelNorm
public import proofs.«01_k».proof.Proof.Gen.KernelNormIdeal
public import proofs.«01_k».proof.Proof.Gen.KernelNormIdeal.Frame
@[expose] public section
set_option maxRecDepth 16384

namespace Cert.NormSame

open Idealize.ShloMosaic Idealize.ShloMosaic.Tactic Cert.KernelNormIdeal

/-- The idealized kernel's run and its unchanged arguments, over the machine's floats. -/
def ran : Prop :=
  ∀ (m : (ℓ : Loc nD τ sig) → Buf (Elt Bits) ℓ) (g : Dev nD → PrngReg), Cert.Pre_KernelNorm m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel's frame is that statement: the two programs have one text. -/
theorem same : ran = Cert.quiescent_KernelNorm := by sl_kernel_rfl

end Cert.NormSame
end
-- ==== Proof.NormBlock.lean ====
module

public import proofs.«01_k».proof.Proof.Gen.KernelNormIdeal.Value
public import Idealize.ShloMosaic.Lib.Pipeline.ValueKit
public import Idealize.ShloMosaic.Lib.Claim

@[expose] public section

set_option maxRecDepth 16384

noncomputable section

/-!
# The norm before the recurrence: what one block computes

A block is 32 trips of 32 rows each; every row is scaled by the reciprocal root of its mean square, by the gain and by the
modulation, and shifted.
-/

namespace Cert.NormBlock

open Idealize.ShloMosaic Idealize.ShloMosaic.TcCoe Cert.KernelNormIdeal Cert.KernelNormIdeal.Gen

/-- One element of a row. -/
def elt (x : Fin 2048 → EReal) (g s h : EReal) (k : Fin 2048) : EReal :=
  x k * Ideal.rsqrt (Ideal.div (∑ d : Fin 2048, x d * x d) (Ideal.ofBits .f32 0x45000000#32) + Ideal.ofBits .f32 0x358637BD#32) * g * (1 + s) + h

/-- One trip, at an index. -/
theorem pay_at (x : Vec Ideal S32x2048 .f32) (g : Vec Ideal S1x2048 .f32) (s h : Vec Ideal S1x1x2048 .f32) (r : Fin 32) (k : Fin 2048) :
    k0_pay1 (F := Ideal) x g s h (ix2 r k) = elt (fun d => x (ix2 r d)) (g (ix2 0 k)) (s (ix3 0 0 k)) (h (ix3 0 0 k)) k := by
  pointwise [k0_pay1, elt]

variable (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1024x2048 .bf16) (harg5 : arg5.IsWhole)

/-- What one block computes. -/
def block (x : Vec Ideal S1024x2048 .f32) (g : Vec Ideal S1x2048 .f32) (s h : Vec Ideal S1x1x2048 .f32) : Vec Ideal S1024x2048 .bf16 :=
  fun y => elt (fun d => x (ix2 (y 0) d)) (g (ix2 0 (y 1))) (s (ix3 0 0 (y 1))) (h (ix3 0 0 (y 1))) (y 1)

/-- The trip that starts at row `32 k` is the block's part there. -/
theorem trip_block (x : Vec Ideal S1024x2048 .f32) (g : Vec Ideal S1x2048 .f32) (s h : Vec Ideal S1x1x2048 .f32) (k : Fin k0_t1_loop.trips) (z : S32x2048.Idx) :
    k0_pay1 (F := Ideal) (View.ld x (Rect.unit (s := S1024x2048) (k0_off1 k) S32x2048.size (k0_off1_inb k))) g s h z
      = block x g s h ((Rect.unit (s := S1024x2048) (k0_off1 k) S32x2048.size (k0_off1_inb k)).emb z) := by
  have b0 : (z 0).val < 32 := (z 0).isLt
  have b1 : (z 1).val < 2048 := (z 1).isLt
  have hz : z = ix2 (⟨(z 0).val, b0⟩ : Fin 32) (⟨(z 1).val, b1⟩ : Fin 2048) := by
    funext a
    fin_cases a <;> rfl
  generalize (⟨(z 0).val, b0⟩ : Fin 32) = r at hz
  generalize (⟨(z 1).val, b1⟩ : Fin 2048) = q at hz
  subst hz
  have hk : k.val < 32 := Nat.lt_of_lt_of_le k.isLt k0_t1_abs.2.1
  have e (q : Fin 2048) : (Rect.unit (s := S1024x2048) (k0_off1 k) S32x2048.size (k0_off1_inb k)).emb (ix2 r q) = ix2 (⟨32 * k.val + r.val, by omega⟩ : Fin 1024) q := by
    funext b; fin_cases b
    · exact Fin.ext (by show k0_off1 k 0 + 1 * r.val = 32 * k.val + r.val; rw [k0_off1_eq]; show 32 * k.val + 1 * r.val = _; omega)
    · exact Fin.ext (by show k0_off1 k 1 + 1 * q.val = q.val; rw [k0_off1_eq]; show 0 + 1 * q.val = _; omega)
  rw [e]
  refine (pay_at _ _ _ _ r q).trans ?_
  refine congrArg (fun f => elt f (g (ix2 0 q)) (s (ix3 0 0 q)) (h (ix3 0 0 q)) q) ?_
  funext d
  exact congrArg x (e d)

variable (x0 : Vec Ideal S1024x2048 .f32) (x1 : Vec Ideal S1x2048 .f32) (x2 : Vec Ideal S1x1x2048 .f32) (x3 : Vec Ideal S1x1x2048 .f32)

/-- A trip's one piece. -/
theorem trip_eq (k : Fin k0_t1_loop.trips) :
    tripL_k0_t1 (F := Ideal) Variants.none c none i arg1 harg1 arg2 harg2 arg3 harg3 arg4 harg4 arg5 harg5 (harg1.unread x0) (harg2.unread x1) (harg3.unread x2) (harg4.unread x3) k
      = [⟨Rect.unit (s := S1024x2048) (k0_off1 k) S32x2048.size (k0_off1_inb k), k0_pay1 (F := Ideal) (View.ld x0 (Rect.unit (s := S1024x2048) (k0_off1 k) S32x2048.size (k0_off1_inb k))) x1 x2 x3⟩] := by
  delta tripL_k0_t1 trip_k0_t1
  dsimp only
  rw [View.readAt_eq_ld, View.readAt_eq_ld, View.readAt_eq_ld, View.readAt_eq_ld, harg1.read_unread, harg2.read_unread, harg3.read_unread, harg4.read_unread]
  rw [View.ld_unit_zero (by funext b; fin_cases b <;> rfl), View.ld_unit_zero (by funext b; fin_cases b <;> rfl), View.ld_unit_zero (by funext b; fin_cases b <;> rfl)]

/-- Every piece of the trips so far is the block's part where it lies. -/
theorem pieces (n : ℕ) (hn : n ≤ k0_t1_loop.trips) :
    ∀ p ∈ pb_k0_t1 (F := Ideal) Variants.none c none i arg1 harg1 arg2 harg2 arg3 harg3 arg4 harg4 arg5 harg5 (harg1.unread x0) (harg2.unread x1) (harg3.unread x2) (harg4.unread x3) n,
      ∀ z : p.1.shape.Idx, p.2 z = block x0 x1 x2 x3 (p.1.emb z) := by
  induction n with
  | zero => intro p hp; exact absurd hp List.not_mem_nil
  | succ n ih =>
    have e := pb_k0_t1_succ (F := Ideal) Variants.none c none i arg1 harg1 arg2 harg2 arg3 harg3 arg4 harg4 arg5 harg5 (harg1.unread x0) (harg2.unread x1) (harg3.unread x2) (harg4.unread x3) ⟨n, hn⟩
    rw [trip_eq] at e
    rw [e]
    intro p hp
    rcases List.mem_append.mp hp with hp | hp
    · rw [List.mem_singleton] at hp
      subst hp
      exact trip_block x0 x1 x2 x3 ⟨n, hn⟩
    · exact ih (by omega) p hp

/-- What the kernel leaves in a block is what the block computes. -/
theorem out_eq : out0_A_4 (F := Ideal) c i arg1 harg1 arg2 harg2 arg3 harg3 arg4 harg4 arg5 harg5 x0 x1 x2 x3 = block x0 x1 x2 x3 := by
  funext y
  refine View.read_writes_apply_of_pieces _ _ (block x0 x1 x2 x3) _ ?_ y (cover0_A_4 c i arg1 harg1 arg2 harg2 arg3 harg3 arg4 harg4 arg5 harg5 x0 x1 x2 x3 y)
  exact pieces c i arg1 harg1 arg2 harg2 arg3 harg3 arg4 harg4 arg5 harg5 x0 x1 x2 x3 k0_t1_loop.trips le_rfl

end Cert.NormBlock

end
-- ==== Proof.NormVal.lean ====
module

public import proofs.«01_k».proof.Proof.NormBlock

@[expose] public section

set_option maxRecDepth 16384

noncomputable section

/-!
# The norm before the recurrence: the kernel's array
-/

namespace Cert.NormVal

open Idealize.ShloMosaic Idealize.ShloMosaic.TcCoe Cert.KernelNormIdeal Cert.KernelNormIdeal.Gen Cert.NormBlock

/-- The normed and modulated row of a token, at a channel. -/
def val (a0 : FVec Ideal S8x4096x2048 .f32) (a1 : FVec Ideal S2048 .f32) (a2 a3 : FVec Ideal S8x1x2048 .f32)
    (b : Fin 8) (t : Fin 4096) (e : Fin 2048) : EReal :=
  elt (fun d => a0 (ix3 b t d)) (a1 (ix1 e)) (a2 (ix3 b 0 e)) (a3 (ix3 b 0 e)) e

/-- The same, as an array of all tokens one after another. -/
def G (a0 : FVec Ideal S8x4096x2048 .f32) (a1 : FVec Ideal S2048 .f32) (a2 a3 : FVec Ideal S8x1x2048 .f32) : FVec Ideal S32768x2048 .bf16 :=
  fun i => val a0 a1 a2 a3 ⟨(i 0).val / 4096, by have : (i 0).val < 32768 := (i 0).isLt; omega⟩ ⟨(i 0).val % 4096, by omega⟩ (i 1)

/-- Which block each window holds at each point. -/
theorem idx : ∀ t : Fin cfg0.N, win0_0.index t = ![t.val, 0] ∧ win0_1.index t = ![0, 0] ∧ win0_2.index t = ![t.val / 4, 0, 0]
    ∧ win0_3.index t = ![t.val / 4, 0, 0] ∧ win0_4.index t = ![t.val, 0] := by
  decide +kernel

section
variable (m : (ℓ : Loc nD τ sig) → Buf (Elt Ideal) ℓ) (c : Dev nD) (t : Fin cfg0.N)

/-- The arguments, at their shapes. -/
def arg0 : FVec Ideal S8x4096x2048 .f32 := m ((c.tc : Thread nD τ).loc main_arg0)
def arg1 : FVec Ideal S2048 .f32 := m ((c.tc : Thread nD τ).loc main_arg1)
def arg2 : FVec Ideal S8x1x2048 .f32 := m ((c.tc : Thread nD τ).loc main_arg2)
def arg3 : FVec Ideal S8x1x2048 .f32 := m ((c.tc : Thread nD τ).loc main_arg3)

/-- The block's token of a row. -/
theorem token (r : Fin 1024) : (t.val * 1024 + r.val) / 4096 < 8 ∧ (t.val * 1024 + r.val) % 4096 < 4096 := by
  have : t.val < 32 := t.isLt
  omega

/-- The block's rows. -/
theorem x_at (r : Fin 1024) (d : Fin 2048) : iblk m c 0 t (ix2 r d) = arg0 m c (ix3 ⟨_, (token t r).1⟩ ⟨_, (token t r).2⟩ d) := by
  have ht : t.val < 32 := t.isLt
  obtain ⟨e, _⟩ := idx t
  have : iblk m c 0 t (ix2 r d) = V m c main_v0 (ix2 ⟨t.val * 1024 + r.val, by omega⟩ d) := by
    blk_ext [iblk, e]
  rw [this]
  entry_read
  pointwise [arg0]

/-- The gain. -/
theorem g_at (k : Fin 2048) : iblk m c 1 t (ix2 0 k) = arg1 m c (ix1 k) := by
  obtain ⟨_, e, _⟩ := idx t
  have : iblk m c 1 t (ix2 0 k) = V m c main_v1 (ix2 0 k) := by
    blk_ext [iblk, e]
  rw [this]
  entry_read
  pointwise [arg1]

/-- The block's scale. -/
theorem s_at (k : Fin 2048) : iblk m c 2 t (ix3 0 0 k) = arg2 m c (ix3 ⟨t.val / 4, by have : t.val < 32 := t.isLt; omega⟩ 0 k) := by
  obtain ⟨_, _, e, _⟩ := idx t
  unfold arg2
  rw [← V_main_arg2 m c]
  blk_ext [iblk, e]

/-- The block's shift. -/
theorem h_at (k : Fin 2048) : iblk m c 3 t (ix3 0 0 k) = arg3 m c (ix3 ⟨t.val / 4, by have : t.val < 32 := t.isLt; omega⟩ 0 k) := by
  obtain ⟨_, _, _, e, _⟩ := idx t
  unfold arg3
  rw [← V_main_arg3 m c]
  blk_ext [iblk, e]

/-- A block's element, from the arguments' elements it reads. -/
theorem block_val (x : Vec Ideal S1024x2048 .f32) (g : Vec Ideal S1x2048 .f32) (s h : Vec Ideal S1x1x2048 .f32)
    (a0 : FVec Ideal S8x4096x2048 .f32) (a1 : FVec Ideal S2048 .f32) (a2 a3 : FVec Ideal S8x1x2048 .f32)
    (r : Fin 1024) (k : Fin 2048) (b : Fin 8) (t : Fin 4096) (hx : ∀ d, x (ix2 r d) = a0 (ix3 b t d)) (hg : g (ix2 0 k) = a1 (ix1 k))
    (hs : s (ix3 0 0 k) = a2 (ix3 b 0 k)) (hh : h (ix3 0 0 k) = a3 (ix3 b 0 k)) : block x g s h (ix2 r k) = val a0 a1 a2 a3 b t k := by
  unfold val
  rw [← hg, ← hs, ← hh]
  simp only [← hx]
  rfl

/-- The array after every point. -/
theorem array : (dats m 0 c).arrAt 4 cfg0.N = G (arg0 m c) (arg1 m c) (arg2 m c) (arg3 m c) := by
  refine (dats m 0 c).arrAt_eq_of_covers 4 _ (by decide +kernel) fun t hf y => ?_
  have ht : t.val < 32 := t.isLt
  blk_simp
  rw [after0_4]
  unfold outsAt0
  rw [out_eq]
  obtain ⟨-, -, -, -, e⟩ := idx t
  have b0 : (y 0).val < 1024 := (y 0).isLt
  have b1 : (y 1).val < 2048 := (y 1).isLt
  have hy : y = ix2 (⟨(y 0).val, b0⟩ : Fin 1024) (⟨(y 1).val, b1⟩ : Fin 2048) := by
    funext a
    fin_cases a <;> rfl
  have k0 : (((win0_4.blk t).view.emb y) 0).val = t.val * 1024 + (y 0).val := by blk_simp [e]
  have k1 : (((win0_4.blk t).view.emb y) 1).val = (y 1).val := by blk_simp [e]
  have hi : (win0_4.blk t).view.emb y = ix2 (⟨t.val * 1024 + (y 0).val, by omega⟩ : Fin 32768) (⟨(y 1).val, b1⟩ : Fin 2048) := by
    funext a
    fin_cases a
    · exact Fin.ext k0
    · exact Fin.ext k1
  rw [hi]
  refine (congrArg (block _ _ _ _) hy).trans ?_
  have hb : (⟨(t.val * 1024 + (y 0).val) / 4096, by omega⟩ : Fin 8) = ⟨t.val / 4, by omega⟩ := Fin.ext (by show (t.val * 1024 + (y 0).val) / 4096 = t.val / 4; omega)
  refine block_val _ _ _ _ _ _ _ _ _ _ _ _ (x_at m c t _) (g_at m c t _) ((s_at m c t _).trans ?_) ((h_at m c t _).trans ?_)
  · rw [← hb]
    rfl
  · rw [← hb]
    rfl

end

end Cert.NormVal

end
-- ==== Proof.NormRef.lean ====
module

public import proofs.«01_k».proof.Proof.NormVal
public import proofs.«01_k».proof.Proof.Gen.ReferenceNormIdeal.Run

@[expose] public section

set_option maxRecDepth 16384

noncomputable section

/-!
# The norm before the recurrence: the reference's array
-/

namespace Cert.NormRef

open Idealize.ShloMosaic Idealize.ShloMosaic.TcCoe Cert.ReferenceNormIdeal Cert.ReferenceNormIdeal.Gen

/-- The reference's array. -/
theorem reference_at (a0 : FVec Ideal S8x4096x2048 .f32) (a1 : FVec Ideal S2048 .f32) (a2 a3 : FVec Ideal S8x1x2048 .f32) :
    shapeCast S32768x2048 (truncf .bf16 (addf (mulf (mulf (mulf a0 (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf a0 a0) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 a1))) (broadcastInDim S8x4096x2048 ![0, 1, 2] bcast_S8x1x2048_S8x4096x2048_0_1_2 (addf (broadcastInDim S8x1x2048 ![] bcast_S_S8x1x2048 (constant S_ .f32 0x3F800000#32)) a2))) (broadcastInDim S8x4096x2048 ![0, 1, 2] bcast_S8x1x2048_S8x4096x2048_0_1_2 a3)) bitsLt_bf16_f32) shapeCasts_S8x4096x2048_S32768x2048
      = NormVal.G a0 a1 a2 a3 := by
  funext y
  have b0 : (y 0).val < 32768 := (y 0).isLt
  have b1 : (y 1).val < 2048 := (y 1).isLt
  have hy : y = ix2 (⟨(y 0).val, b0⟩ : Fin 32768) (⟨(y 1).val, b1⟩ : Fin 2048) := by
    funext a
    fin_cases a <;> rfl
  generalize (⟨(y 0).val, b0⟩ : Fin 32768) = r at hy
  generalize (⟨(y 1).val, b1⟩ : Fin 2048) = k at hy
  subst hy
  pointwise [NormVal.G, NormVal.val, NormBlock.elt]

end Cert.NormRef

end
-- ==== Proof.AdaSame.lean ====
module
public import proofs.«01_k».proof.Defs
public import proofs.«01_k».proof.Proof.Gen.KernelAda
public import proofs.«01_k».proof.Proof.Gen.KernelAdaIdeal
public import proofs.«01_k».proof.Proof.Gen.KernelAdaIdeal.Frame
@[expose] public section
set_option maxRecDepth 16384

namespace Cert.AdaSame

open Idealize.ShloMosaic Idealize.ShloMosaic.Tactic Cert.KernelAdaIdeal

/-- The idealized kernel's run and its unchanged arguments, over the machine's floats. -/
def ran : Prop :=
  ∀ (m : (ℓ : Loc nD τ sig) → Buf (Elt Bits) ℓ) (g : Dev nD → PrngReg), Cert.Pre_KernelAda m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The kernel's frame is that statement: the two programs have one text. -/
theorem same : ran = Cert.quiescent_KernelAda := by sl_kernel_rfl

end Cert.AdaSame
end
-- ==== Proof.AdaBlock.lean ====
module

public import proofs.«01_k».proof.Proof.Gen.KernelAdaIdeal.Value
public import Idealize.ShloMosaic.Lib.Pipeline.ValueKit
public import Idealize.ShloMosaic.Lib.Claim

@[expose] public section

set_option maxRecDepth 16384

noncomputable section

/-!
# The layers' modulation: what one block computes

A block is the product of the activated rows by a tile of one layer's weights, both taken as a leading and a trailing part,
plus the tile of the bias. A real number's trailing part is zero; minus infinity's is minus infinity, which adds nothing to a product by it.
-/

namespace Cert.AdaBlock

open Idealize.ShloMosaic Idealize.ShloMosaic.TcCoe Cert.KernelAdaIdeal Cert.KernelAdaIdeal.Gen

/-- The activation. -/
def act (x : EReal) : EReal := x * Ideal.logistic x

/-- A block's element as the kernel computes it. -/
theorem pay_at (x : Vec Ideal S8x2048 .f32) (w : Vec Ideal S1x2048x768 .f32) (b : Vec Ideal S1x1x768 .f32) (r : Fin 8) (k : Fin 768) :
    k0_pay1 (F := Ideal) x w b (ix3 0 r k)
      = (∑ d : Fin 2048, act (x (ix2 r d)) * w (ix3 0 d k)) + (∑ d : Fin 2048, (act (x (ix2 r d)) - act (x (ix2 r d))) * w (ix3 0 d k))
        + (∑ d : Fin 2048, act (x (ix2 r d)) * (w (ix3 0 d k) - w (ix3 0 d k))) + b (ix3 0 0 k) := by
  pointwise [k0_pay1, act]

/-- The activation of a number below infinity is real. -/
theorem act_real (x : EReal) (h : x < ⊤) : ∃ q : ℝ, act x = (q : EReal) := by
  unfold act
  induction x using EReal.rec with
  | bot => exact ⟨0, by rw [Ideal.logistic_bot, mul_zero, EReal.coe_zero]⟩
  | top => exact absurd h (lt_irrefl _)
  | coe r => exact ⟨r * (1 + Real.exp (-r))⁻¹, by rw [Ideal.logistic_coe, EReal.coe_mul]⟩

/-- A real number less itself is zero. -/
theorem sub_real (r : ℝ) : (r : EReal) - (r : EReal) = 0 := by
  rw [← EReal.coe_sub, sub_self, EReal.coe_zero]

/-- A real multiple of a number below infinity takes the same multiple of its trailing part without a change. -/
theorem add_rest (r : ℝ) (w : EReal) (h : w < ⊤) : (r : EReal) * w + (r : EReal) * (w - w) = (r : EReal) * w := by
  induction w using EReal.rec with
  | top => exact absurd h (lt_irrefl _)
  | coe q => rw [sub_real, mul_zero, add_zero]
  | bot =>
    have e : (⊥ : EReal) - ⊥ = ⊥ := by rw [sub_eq_add_neg, EReal.bot_add]
    rw [e]
    rcases lt_trichotomy r 0 with hr | hr | hr
    · rw [EReal.coe_mul_bot_of_neg hr, EReal.top_add_top]
    · rw [hr, EReal.coe_zero, zero_mul, add_zero]
    · rw [EReal.coe_mul_bot_of_pos hr, EReal.bot_add]

/-- What one block computes. -/
def block (x : Vec Ideal S8x2048 .f32) (w : Vec Ideal S1x2048x768 .f32) (b : Vec Ideal S1x1x768 .f32) : Vec Ideal S1x8x768 .f32 :=
  fun i => (∑ d : Fin 2048, act (x (ix2 (i 1) d)) * w (ix3 0 d (i 2))) + b (ix3 0 0 (i 2))

/-- What the kernel leaves in a block of rows and weights below infinity is what the block computes. -/
theorem out_eq (x : Vec Ideal S8x2048 .f32) (w : Vec Ideal S1x2048x768 .f32) (b : Vec Ideal S1x1x768 .f32)
    (hx : ∀ r d, x (ix2 r d) < (⊤ : EReal)) (hw : ∀ d k, w (ix3 0 d k) < (⊤ : EReal)) :
    out0_3 (F := Ideal) x w b = block x w b := by
  have ex : View.ld x r0_0 = x := by rw [View.ld_unit_zero (by funext b; fin_cases b <;> rfl)]
  have ew : View.ld w r0_1 = w := by rw [View.ld_unit_zero (by funext b; fin_cases b <;> rfl)]
  have eb : View.ld b r0_2 = b := by rw [View.ld_unit_zero (by funext b; fin_cases b <;> rfl)]
  funext y
  refine View.canon_apply_of_pieces (block x w b) _ ?_ y (cover0_3 _ y)
  intro p hp
  rw [List.mem_singleton] at hp
  subst hp
  intro z
  have e : r0_3.emb z = z := by
    funext b
    fin_cases b <;> exact Fin.ext (by show 0 + 1 * _ = _; omega)
  rw [e]
  show k0_pay1 (F := Ideal) (View.ld x r0_0) (View.ld w r0_1) (View.ld b r0_2) z = block x w b z
  rw [ex, ew, eb]
  have b1 : (z 1).val < 8 := (z 1).isLt
  have b2 : (z 2).val < 768 := (z 2).isLt
  have hz : z = ix3 0 (⟨(z 1).val, b1⟩ : Fin 8) (⟨(z 2).val, b2⟩ : Fin 768) := by
    funext a
    fin_cases a
    · exact Subsingleton.elim (α := Fin 1) _ _
    · rfl
    · rfl
  generalize (⟨(z 1).val, b1⟩ : Fin 8) = r at hz
  generalize (⟨(z 2).val, b2⟩ : Fin 768) = k at hz
  subst hz
  refine (pay_at x w b r k).trans ?_
  have h1 : (∑ d : Fin 2048, (act (x (ix2 r d)) - act (x (ix2 r d))) * w (ix3 0 d k)) = 0 := by
    refine Finset.sum_eq_zero fun d _ => ?_
    obtain ⟨q, hq⟩ := act_real _ (hx r d)
    rw [hq, sub_real, zero_mul]
  have h2 : (∑ d : Fin 2048, act (x (ix2 r d)) * w (ix3 0 d k)) + (∑ d : Fin 2048, act (x (ix2 r d)) * (w (ix3 0 d k) - w (ix3 0 d k)))
      = ∑ d : Fin 2048, act (x (ix2 r d)) * w (ix3 0 d k) := by
    rw [← Finset.sum_add_distrib]
    refine Finset.sum_congr rfl fun d _ => ?_
    obtain ⟨q, hq⟩ := act_real _ (hx r d)
    rw [hq, add_rest q _ (hw d k)]
  rw [h1, add_zero, h2]
  rfl

end Cert.AdaBlock

end
-- ==== Proof.AdaVal.lean ====
module

public import proofs.«01_k».proof.Proof.AdaBlock

@[expose] public section

set_option maxRecDepth 16384

noncomputable section

/-!
# The layers' modulation: the kernel's array
-/

namespace Cert.AdaVal

open Idealize.ShloMosaic Idealize.ShloMosaic.TcCoe Cert.KernelAdaIdeal Cert.KernelAdaIdeal.Gen Cert.AdaBlock

/-- A layer's modulation of a row, at a channel. -/
def val (a0 : FVec Ideal S8x2048 .f32) (a1 : FVec Ideal S4x2048x12288 .f32) (a2 : FVec Ideal S4x12288 .f32)
    (l : Fin 4) (b : Fin 8) (e : Fin 12288) : EReal :=
  (∑ d : Fin 2048, act (a0 (ix2 b d)) * a1 (ix3 l d e)) + a2 (ix2 l e)

/-- The same, as an array. -/
def G (a0 : FVec Ideal S8x2048 .f32) (a1 : FVec Ideal S4x2048x12288 .f32) (a2 : FVec Ideal S4x12288 .f32) : FVec Ideal S4x8x12288 .f32 :=
  fun i => val a0 a1 a2 (i 0) (i 1) (i 2)

/-- Which block each window holds at each point. -/
theorem idx : ∀ t : Fin cfg0.N, win0_0.index t = ![0, 0] ∧ win0_1.index t = ![t.val / 16, 0, t.val % 16] ∧ win0_2.index t = ![t.val / 16, 0, t.val % 16]
    ∧ win0_3.index t = ![t.val / 16, 0, t.val % 16] := by
  decide +kernel

section
variable (m : (ℓ : Loc nD τ sig) → Buf (Elt Ideal) ℓ) (c : Dev nD) (t : Fin cfg0.N)

/-- The arguments, at their shapes. -/
def arg0 : FVec Ideal S8x2048 .f32 := m ((c.tc : Thread nD τ).loc main_arg0)
def arg1 : FVec Ideal S4x2048x12288 .f32 := m ((c.tc : Thread nD τ).loc main_arg1)
def arg2 : FVec Ideal S4x12288 .f32 := m ((c.tc : Thread nD τ).loc main_arg2)

/-- The block's layer, and the channel of a column. -/
theorem place (k : Fin 768) : t.val / 16 < 4 ∧ t.val % 16 * 768 + k.val < 12288 := by
  have : t.val < 64 := t.isLt
  omega

/-- The rows. -/
theorem x_at (r : Fin 8) (d : Fin 2048) : iblk m c 0 t (ix2 r d) = arg0 m c (ix2 r d) := by
  obtain ⟨e, _⟩ := idx t
  unfold arg0
  rw [← V_main_arg0 m c]
  blk_ext [iblk, e]

/-- The block's weights. -/
theorem w_at (d : Fin 2048) (k : Fin 768) : iblk m c 1 t (ix3 0 d k) = arg1 m c (ix3 ⟨_, (place t k).1⟩ d ⟨_, (place t k).2⟩) := by
  obtain ⟨_, e, _⟩ := idx t
  unfold arg1
  rw [← V_main_arg1 m c]
  blk_ext [iblk, e]

/-- The block's bias. -/
theorem b_at (k : Fin 768) : iblk m c 2 t (ix3 0 0 k) = arg2 m c (ix2 ⟨_, (place t k).1⟩ ⟨_, (place t k).2⟩) := by
  obtain ⟨_, _, e, _⟩ := idx t
  have : iblk m c 2 t (ix3 0 0 k) = V m c main_v0 (ix3 ⟨_, (place t k).1⟩ 0 ⟨_, (place t k).2⟩) := by
    blk_ext [iblk, e]
  rw [this]
  entry_read
  pointwise [arg2]

/-- A block's element, from the arguments' elements it reads. -/
theorem block_val (x : Vec Ideal S8x2048 .f32) (w : Vec Ideal S1x2048x768 .f32) (b : Vec Ideal S1x1x768 .f32)
    (a0 : FVec Ideal S8x2048 .f32) (a1 : FVec Ideal S4x2048x12288 .f32) (a2 : FVec Ideal S4x12288 .f32)
    (r : Fin 8) (k : Fin 768) (l : Fin 4) (e : Fin 12288) (hx : ∀ d, x (ix2 r d) = a0 (ix2 r d)) (hw : ∀ d, w (ix3 0 d k) = a1 (ix3 l d e))
    (hb : b (ix3 0 0 k) = a2 (ix2 l e)) : block x w b (ix3 0 r k) = val a0 a1 a2 l r e := by
  unfold val
  rw [← hb]
  simp only [← hx, ← hw]
  rfl

/-- The array after every point, from rows and weights below infinity. -/
theorem array (h0 : ∀ b d, arg0 m c (ix2 b d) < (⊤ : EReal)) (h1 : ∀ l d e, arg1 m c (ix3 l d e) < (⊤ : EReal)) :
    (dats m 0 c).arrAt 3 cfg0.N = G (arg0 m c) (arg1 m c) (arg2 m c) := by
  refine (dats m 0 c).arrAt_eq_of_covers 3 _ (by decide +kernel) fun t hf y => ?_
  have ht : t.val < 64 := t.isLt
  blk_simp
  rw [after0_3]
  refine (congrFun (out_eq (iblk m c 0 t) (iblk m c 1 t) (iblk m c 2 t)
    (fun r d => lt_of_eq_of_lt (α := EReal) (x_at m c t r d) (h0 r d)) (fun d k => lt_of_eq_of_lt (α := EReal) (w_at m c t d k) (h1 _ d _))) y).trans ?_
  obtain ⟨-, -, -, e⟩ := idx t
  have b1 : (y 1).val < 8 := (y 1).isLt
  have b2 : (y 2).val < 768 := (y 2).isLt
  have b0 : (y 0).val < 1 := (y 0).isLt
  have hy : y = ix3 0 (⟨(y 1).val, b1⟩ : Fin 8) (⟨(y 2).val, b2⟩ : Fin 768) := by
    funext a
    fin_cases a
    · exact Subsingleton.elim (α := Fin 1) _ _
    · rfl
    · rfl
  have k0 : (((win0_3.blk t).view.emb y) 0).val = t.val / 16 + (y 0).val := by blk_simp [e]
  have k1 : (((win0_3.blk t).view.emb y) 1).val = (y 1).val := by blk_simp [e]
  have k2 : (((win0_3.blk t).view.emb y) 2).val = t.val % 16 * 768 + (y 2).val := by blk_simp [e]
  have hi : (win0_3.blk t).view.emb y = ix3 (⟨t.val / 16, by omega⟩ : Fin 4) (⟨(y 1).val, b1⟩ : Fin 8) (⟨t.val % 16 * 768 + (y 2).val, by omega⟩ : Fin 12288) := by
    funext a
    fin_cases a
    · exact Fin.ext (k0.trans (by show _ = t.val / 16; omega))
    · exact Fin.ext k1
    · exact Fin.ext k2
  rw [hi]
  refine (congrArg (block _ _ _) hy).trans ?_
  exact block_val _ _ _ _ _ _ _ _ _ _ (x_at m c t _) (fun d => w_at m c t d _) (b_at m c t _)

end

end Cert.AdaVal

end
-- ==== Proof.AdaRef.lean ====
module

public import proofs.«01_k».proof.Proof.AdaVal
public import proofs.«01_k».proof.Proof.Gen.ReferenceAdaIdeal.Run
public import proofs.«01_k».proof.Proof.Gen.Pre_below_infinity
public import Idealize.ShloMosaic.Lib.ReduceAll

@[expose] public section

set_option maxRecDepth 16384

noncomputable section

/-!
# The layers' modulation: the precondition read, and the reference's array
-/

namespace Cert.AdaRef

open Idealize.ShloMosaic Idealize.ShloMosaic.TcCoe

section
open Cert.Pre_below_infinity Cert.Pre_below_infinity.Gen

/-- A comparison with infinity, read. -/
theorem lt_of_bit (x : EReal) (h : BitVec.ofBool (decide (x < (Ideal.ofBits .f32 0x7F800000#32 : EReal))) = 1#1) : x < (⊤ : EReal) := by
  have ht : Ideal.ofBits .f32 0x7F800000#32 = (⊤ : EReal) := by simp [Ideal.ofBits, Ideal.ieee]
  rw [ht] at h
  by_contra hc
  rw [decide_eq_false hc] at h
  exact absurd h (by decide)

/-- Two bits whose conjunction is one are both one. -/
theorem both : ∀ p q : BitVec 1, p &&& q = 1#1 → p = 1#1 ∧ q = 1#1 := by decide

/-- Where the precondition holds, every entry of the rows and of the weights is below infinity. -/
theorem below (a0 : FVec Ideal S8x2048 .f32) (a1 : FVec Ideal S4x2048x12288 .f32) (a2 : FVec Ideal S4x12288 .f32)
    (h : fn (F := Ideal) a0 a1 a2 = fun _ => 1#1) :
    (∀ b d, a0 (ix2 b d) < (⊤ : EReal)) ∧ ∀ l d e, a1 (ix3 l d e) < (⊤ : EReal) := by
  haveI : Subsingleton S_.Idx := ⟨fun a b => funext fun i => i.elim0⟩
  have h1 := congrFun h (fun i => i.elim0)
  obtain ⟨p, q⟩ := both _ _ h1
  exact ⟨fun b d => lt_of_bit _ (Host.reduce_andi_all _ _ _ _ _ p (ix2 b d)), fun l d e => lt_of_bit _ (Host.reduce_andi_all _ _ _ _ _ q (ix3 l d e))⟩
end

section
open Cert.ReferenceAdaIdeal Cert.ReferenceAdaIdeal.Gen

/-- The reference's array. -/
theorem reference_at (a0 : FVec Ideal S8x2048 .f32) (a1 : FVec Ideal S4x2048x12288 .f32) (a2 : FVec Ideal S4x12288 .f32) :
    addf (transpose S4x8x12288 [0, 2, 1] (Host.dotGeneral dot_S4x2048x12288_S8x2048_S4x12288x8_1_1_02_0_n_n none a1 (mulf a0 (Host.divf (broadcastInDim S8x2048 ![] bcast_S_S8x2048 (constant S_ .f32 0x3F800000#32)) (addf (broadcastInDim S8x2048 ![] bcast_S_S8x2048 (constant S_ .f32 0x3F800000#32)) (Host.exp (Host.negf a0)))))) transposes_S4x12288x8_S4x8x12288_0_2_1) (broadcastInDim S4x8x12288 ![0, 1, 2] bcast_S4x1x12288_S4x8x12288_0_1_2 (broadcastInDim S4x1x12288 ![0, 2] bcast_S4x12288_S4x1x12288_0_2 a2))
      = AdaVal.G a0 a1 a2 := by
  funext y
  have b0 : (y 0).val < 4 := (y 0).isLt
  have b1 : (y 1).val < 8 := (y 1).isLt
  have b2 : (y 2).val < 12288 := (y 2).isLt
  have hy : y = ix3 (⟨(y 0).val, b0⟩ : Fin 4) (⟨(y 1).val, b1⟩ : Fin 8) (⟨(y 2).val, b2⟩ : Fin 12288) := by
    funext a
    fin_cases a <;> rfl
  generalize (⟨(y 0).val, b0⟩ : Fin 4) = l at hy
  generalize (⟨(y 1).val, b1⟩ : Fin 8) = b at hy
  generalize (⟨(y 2).val, b2⟩ : Fin 12288) = e at hy
  subst hy
  pointwise [AdaVal.G, AdaVal.val, AdaBlock.act, Ideal.logistic]
  exact congrArg (· + a2 (ix2 l e)) (Finset.sum_congr rfl fun d _ => mul_comm _ _)
end

end Cert.AdaRef

end
-- ==== Proof.lean ====
/-
The proof of `Cert.Claim`: the kernel, its idealization and the reference run and leave their arguments
alone, and the kernel and the reference, read over the extended reals, compute the same array.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_lower_bound_inside
public import proofs.«01_k».proof.Proof.Gen.KernelGlu
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Gen.KernelOut
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelNorm
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelAda
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.Gen.Pre_below_infinity
public import proofs.«01_k».proof.Proof.Final
public import proofs.«01_k».proof.Proof.RefRun
public import proofs.«01_k».proof.Proof.Bounds
public import proofs.«01_k».proof.Proof.Same
public import proofs.«01_k».proof.Proof.GluSame
public import proofs.«01_k».proof.Proof.GluVal
public import proofs.«01_k».proof.Proof.GluRef
public import proofs.«01_k».proof.Proof.OutSame
public import proofs.«01_k».proof.Proof.OutVal
public import proofs.«01_k».proof.Proof.OutRef
public import proofs.«01_k».proof.Proof.NormSame
public import proofs.«01_k».proof.Proof.NormVal
public import proofs.«01_k».proof.Proof.NormRef
public import proofs.«01_k».proof.Proof.AdaSame
public import proofs.«01_k».proof.Proof.AdaVal
public import proofs.«01_k».proof.Proof.AdaRef
public import Idealize.ShloMosaic.Adequacy
public import Idealize.ShloMosaic.Init

@[expose] public section

set_option maxRecDepth 16384

noncomputable section

namespace Cert.Proof

open Idealize.ShloMosaic Idealize.SL.Sem

/-- The kernel runs and leaves its arguments alone: its idealization has its text, and that run holds over any values. -/
theorem frame_kernel : Cert.quiescent_Kernel :=
  Cert.Same.same.mp (fun m ρ _ => Cert.KernelIdeal.Gen.frame (F := Bits) m ρ)

/-- The idealized kernel runs and leaves its arguments alone. -/
theorem frame_ideal : Cert.quiescent_KernelIdeal := fun m ρ _ => Cert.KernelIdeal.Gen.frame (F := Ideal) m ρ

/-- The reference runs and leaves its arguments alone; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Cert.RefRun.run (F := Ideal) m ρ)

/-- The kernel leaves the array of the reference's chunks. -/
theorem run_kernel (m : (ℓ : Loc Cert.KernelIdeal.nD Cert.KernelIdeal.τ Cert.KernelIdeal.sig) → Buf (Elt Ideal) ℓ) (ρ : Dev Cert.KernelIdeal.nD → PrngReg)
    (hm : Cert.Pre_KernelIdeal_lower_bound_inside m) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v9) = Cert.Final.G m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  (θ_run Cert.KernelIdeal.defs _ _).mono
    (fun _ h c => ⟨((h.1 c).1 8).trans (Cert.Final.array m c (fun i => Cert.Bounds.real _ _ _ _ (hm c) i)), h.2 c⟩)
    (θ_run_and (Cert.KernelIdeal.Gen.run_main m ρ) (Cert.KernelIdeal.Gen.unchanged m ρ))

/-- The reference's result is the same array. -/
theorem value_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = Cert.Grid.A0 m c)
    (h1 : m' ((c.tc : Thread Cert.ReferenceIdeal.nD Cert.ReferenceIdeal.τ).loc Cert.ReferenceIdeal.main_arg1) = Cert.Grid.A1 m c)
    (h2 : m' ((c.tc : Thread Cert.ReferenceIdeal.nD Cert.ReferenceIdeal.τ).loc Cert.ReferenceIdeal.main_arg2) = Cert.Grid.A2 m c)
    (h3 : m' ((c.tc : Thread Cert.ReferenceIdeal.nD Cert.ReferenceIdeal.τ).loc Cert.ReferenceIdeal.main_arg3) = Cert.Grid.A3 m c) :
    Cert.ReferenceIdeal.Step.R_main_v76 (Cert.RefRun.states m' c 64)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3)) = Cert.Final.G m c := by
  have hs : Cert.RefRun.states m' c 0 = Cert.ReferenceIdeal.Step.init (Cert.Grid.A0 m c) (Cert.Grid.A1 m c) (Cert.Grid.A2 m c) := by
    rw [← h0, ← h1, ← h2]
    rfl
  rw [h0, h1, h3]
  funext y
  have b0 : (y 0).val < 8 := (y 0).isLt
  have b1 : (y 1).val < 4096 := (y 1).isLt
  have b2 : (y 2).val < 2048 := (y 2).isLt
  have hy : y = ix3 (⟨(y 0).val, b0⟩ : Fin 8) (⟨(y 1).val, b1⟩ : Fin 4096) (⟨(y 2).val, b2⟩ : Fin 2048) := by
    funext a
    fin_cases a <;> rfl
  rw [hy]
  exact Cert.RefVal.result_at _ _ _ _ _ (Cert.RefRun.states m' c) (fun _ => rfl) hs _ _

/-- The kernel and the reference compute the same array. -/
theorem algebraic : Cert.algebraic_KernelIdeal_ReferenceIdeal_pre_lower_bound_inside := by
  intro m ρ m' ρ' hm hagree
  refine ⟨fun c => Cert.Final.G m c, run_kernel m ρ hm, ?_⟩
  refine (θ_run Cert.ReferenceIdeal.defs _ _).mono (fun _ h c => ⟨(h c).1.trans ?_, (h c).2⟩) (Cert.RefRun.run (F := Ideal) m' ρ')
  exact value_reference m m' c (hagree c).1 (hagree c).2.1 (hagree c).2.2.1 (hagree c).2.2.2

/-- The gated unit's kernel runs and leaves its arguments alone. -/
theorem frame_kernel_glu : Cert.quiescent_KernelGlu :=
  Cert.GluSame.same.mp (fun m ρ _ => Cert.KernelGluIdeal.Gen.frame (F := Bits) m ρ)

/-- Its idealization runs and leaves its arguments alone. -/
theorem frame_ideal_glu : Cert.quiescent_KernelGluIdeal := fun m ρ _ => Cert.KernelGluIdeal.Gen.frame (F := Ideal) m ρ

/-- Its reference runs and leaves its arguments alone; it has no semaphores. -/
theorem frame_reference_glu : Cert.quiescent_ReferenceGluIdeal := fun m ρ _ =>
  (θ_run Cert.ReferenceGluIdeal.defs _ _).mono (fun r h => ⟨fun c => (h c).2, sem_eq_zero_of_no_sems (by decide) r.2⟩) (Cert.ReferenceGluIdeal.Value.run (F := Ideal) m ρ)

/-- The kernel and the reference compute the same array. -/
theorem algebraic_glu : Cert.algebraic_KernelGluIdeal_ReferenceGluIdeal := by
  intro m ρ m' ρ' _ hagree
  refine ⟨fun c => Cert.GluVal.G (Cert.GluVal.arg0 m c) (Cert.GluVal.arg1 m c) (Cert.GluVal.arg2 m c) (Cert.GluVal.arg3 m c), ?_, ?_⟩
  · exact (θ_run Cert.KernelGluIdeal.defs _ _).mono (fun _ h c => ⟨(h c).1.trans (Cert.GluVal.array m c), (h c).2⟩) (Cert.KernelGluIdeal.Value.run_blocks (F := Ideal) m ρ)
  · refine (θ_run Cert.ReferenceGluIdeal.defs _ _).mono (fun _ h c => ⟨(h c).1.trans ?_, (h c).2⟩) (Cert.ReferenceGluIdeal.Value.run (F := Ideal) m' ρ')
    rw [(hagree c).1, (hagree c).2.1, (hagree c).2.2.1, (hagree c).2.2.2]
    exact Cert.GluRef.reference_at _ _ _ _

/-- The output projection's kernel runs and leaves its arguments alone. -/
theorem frame_kernel_out : Cert.quiescent_KernelOut :=
  Cert.OutSame.same.mp (fun m ρ _ => Cert.KernelOutIdeal.Gen.frame (F := Bits) m ρ)

/-- Its idealization runs and leaves its arguments alone. -/
theorem frame_ideal_out : Cert.quiescent_KernelOutIdeal := fun m ρ _ => Cert.KernelOutIdeal.Gen.frame (F := Ideal) m ρ

/-- Its reference runs and leaves its arguments alone; it has no semaphores. -/
theorem frame_reference_out : Cert.quiescent_ReferenceOutIdeal := fun m ρ _ =>
  (θ_run Cert.ReferenceOutIdeal.defs _ _).mono (fun r h => ⟨fun c => (h c).2, sem_eq_zero_of_no_sems (by decide) r.2⟩) (Cert.ReferenceOutIdeal.Value.run (F := Ideal) m ρ)

/-- The kernel and the reference compute the same array. -/
theorem algebraic_out : Cert.algebraic_KernelOutIdeal_ReferenceOutIdeal := by
  intro m ρ m' ρ' _ hagree
  refine ⟨fun c => Cert.OutVal.G (Cert.OutVal.arg0 m c) (Cert.OutVal.arg1 m c) (Cert.OutVal.arg2 m c) (Cert.OutVal.arg3 m c), ?_, ?_⟩
  · exact (θ_run Cert.KernelOutIdeal.defs _ _).mono (fun _ h c => ⟨(h c).1.trans (Cert.OutVal.array m c), (h c).2⟩) (Cert.KernelOutIdeal.Value.run_blocks (F := Ideal) m ρ)
  · refine (θ_run Cert.ReferenceOutIdeal.defs _ _).mono (fun _ h c => ⟨(h c).1.trans ?_, (h c).2⟩) (Cert.ReferenceOutIdeal.Value.run (F := Ideal) m' ρ')
    rw [(hagree c).1, (hagree c).2.1, (hagree c).2.2.1, (hagree c).2.2.2]
    exact Cert.OutRef.reference_at _ _ _ _

/-- The first norm's kernel runs and leaves its arguments alone. -/
theorem frame_kernel_norm : Cert.quiescent_KernelNorm :=
  Cert.NormSame.same.mp (fun m ρ _ => Cert.KernelNormIdeal.Gen.frame (F := Bits) m ρ)

/-- Its idealization runs and leaves its arguments alone. -/
theorem frame_ideal_norm : Cert.quiescent_KernelNormIdeal := fun m ρ _ => Cert.KernelNormIdeal.Gen.frame (F := Ideal) m ρ

/-- Its reference runs and leaves its arguments alone; it has no semaphores. -/
theorem frame_reference_norm : Cert.quiescent_ReferenceNormIdeal := fun m ρ _ =>
  (θ_run Cert.ReferenceNormIdeal.defs _ _).mono (fun r h => ⟨fun c => (h c).2, sem_eq_zero_of_no_sems (by decide) r.2⟩) (Cert.ReferenceNormIdeal.Value.run (F := Ideal) m ρ)

/-- The kernel and the reference compute the same array. -/
theorem algebraic_norm : Cert.algebraic_KernelNormIdeal_ReferenceNormIdeal := by
  intro m ρ m' ρ' _ hagree
  refine ⟨fun c => Cert.NormVal.G (Cert.NormVal.arg0 m c) (Cert.NormVal.arg1 m c) (Cert.NormVal.arg2 m c) (Cert.NormVal.arg3 m c), ?_, ?_⟩
  · exact (θ_run Cert.KernelNormIdeal.defs _ _).mono (fun _ h c => ⟨(h c).1.trans (Cert.NormVal.array m c), (h c).2⟩) (Cert.KernelNormIdeal.Value.run_blocks (F := Ideal) m ρ)
  · refine (θ_run Cert.ReferenceNormIdeal.defs _ _).mono (fun _ h c => ⟨(h c).1.trans ?_, (h c).2⟩) (Cert.ReferenceNormIdeal.Value.run (F := Ideal) m' ρ')
    rw [(hagree c).1, (hagree c).2.1, (hagree c).2.2.1, (hagree c).2.2.2]
    exact Cert.NormRef.reference_at _ _ _ _

/-- The modulation's kernel runs and leaves its arguments alone. -/
theorem frame_kernel_ada : Cert.quiescent_KernelAda :=
  Cert.AdaSame.same.mp (fun m ρ _ => Cert.KernelAdaIdeal.Gen.frame (F := Bits) m ρ)

/-- Its idealization runs and leaves its arguments alone. -/
theorem frame_ideal_ada : Cert.quiescent_KernelAdaIdeal := fun m ρ _ => Cert.KernelAdaIdeal.Gen.frame (F := Ideal) m ρ

/-- Its reference runs and leaves its arguments alone; it has no semaphores. -/
theorem frame_reference_ada : Cert.quiescent_ReferenceAdaIdeal := fun m ρ _ =>
  (θ_run Cert.ReferenceAdaIdeal.defs _ _).mono (fun r h => ⟨fun c => (h c).2, sem_eq_zero_of_no_sems (by decide) r.2⟩) (Cert.ReferenceAdaIdeal.Value.run (F := Ideal) m ρ)

/-- From rows and weights below infinity, the kernel and the reference compute the same array. -/
theorem algebraic_ada : Cert.algebraic_KernelAdaIdeal_ReferenceAdaIdeal_pre_below_infinity := by
  intro m ρ m' ρ' hm hagree
  refine ⟨fun c => Cert.AdaVal.G (Cert.AdaVal.arg0 m c) (Cert.AdaVal.arg1 m c) (Cert.AdaVal.arg2 m c), ?_, ?_⟩
  · exact (θ_run Cert.KernelAdaIdeal.defs _ _).mono
      (fun _ h c => ⟨(h c).1.trans (Cert.AdaVal.array m c (Cert.AdaRef.below _ _ _ (hm c)).1 (Cert.AdaRef.below _ _ _ (hm c)).2), (h c).2⟩)
      (Cert.KernelAdaIdeal.Value.run_blocks (F := Ideal) m ρ)
  · refine (θ_run Cert.ReferenceAdaIdeal.defs _ _).mono (fun _ h c => ⟨(h c).1.trans ?_, (h c).2⟩) (Cert.ReferenceAdaIdeal.Value.run (F := Ideal) m' ρ')
    rw [(hagree c).1, (hagree c).2.1, (hagree c).2.2]
    exact Cert.AdaRef.reference_at _ _ _

/-- Every claim. -/
theorem claim : Cert.Claim :=
  ⟨Cert.Kernel.Gen.facts, Cert.KernelIdeal.Gen.facts, Cert.ReferenceIdeal.Gen.facts, Cert.KernelGlu.Gen.facts, Cert.KernelGluIdeal.Gen.facts,
    Cert.ReferenceGluIdeal.Gen.facts, Cert.KernelOut.Gen.facts, Cert.KernelOutIdeal.Gen.facts, Cert.ReferenceOutIdeal.Gen.facts,
    Cert.KernelNorm.Gen.facts, Cert.KernelNormIdeal.Gen.facts, Cert.ReferenceNormIdeal.Gen.facts,
    Cert.KernelAda.Gen.facts, Cert.KernelAdaIdeal.Gen.facts, Cert.ReferenceAdaIdeal.Gen.facts, Cert.Pre_lower_bound_inside.Gen.facts, Cert.Pre_below_infinity.Gen.facts,
    frame_kernel, frame_ideal, fun m ρ _ => frame_ideal m ρ trivial, frame_reference, fun m ρ _ => frame_reference m ρ trivial,
    frame_kernel_glu, frame_ideal_glu, frame_reference_glu, frame_kernel_out, frame_ideal_out, frame_reference_out,
    frame_kernel_norm, frame_ideal_norm, frame_reference_norm,
    frame_kernel_ada, frame_ideal_ada, fun m ρ _ => frame_ideal_ada m ρ trivial, frame_reference_ada, fun m ρ _ => frame_reference_ada m ρ trivial,
    trivial, algebraic, trivial, algebraic_glu, trivial, algebraic_out, trivial, algebraic_norm, trivial, algebraic_ada⟩

end Cert.Proof

end
